-- ==== Defs.lean ====
def Pre_Kernel [hPre_in_windows : Cert.Pre_in_windows.Facts] (m : (ℓ : Loc Cert.Kernel.nD Cert.Kernel.τ Cert.Kernel.sig) → Buf (Elt Bits) ℓ) : Prop :=
  ∀ c : Dev Cert.Kernel.nD,
    (Cert.Pre_in_windows.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_windows : Cert.Pre_in_windows.Facts] (m : (ℓ : Loc Cert.KernelIdeal.nD Cert.KernelIdeal.τ Cert.KernelIdeal.sig) → Buf (Elt Ideal) ℓ) : Prop :=
  ∀ c : Dev Cert.KernelIdeal.nD,
    (Cert.Pre_in_windows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_windows [hPre_in_windows : Cert.Pre_in_windows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_windows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_windows : Cert.Pre_in_windows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_windows : Cert.Pre_in_windows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_windows [hReferenceIdeal : Cert.ReferenceIdeal.Facts] [hPre_in_windows : Cert.Pre_in_windows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_windows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_windows : Cert.Pre_in_windows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_windows : Cert.Pre_in_windows.Facts),
    quiescent_Kernel (hKernel := hKernel) (hPre_in_windows := hPre_in_windows)
    ∧ quiescent_KernelIdeal (hKernelIdeal := hKernelIdeal) (hPre_in_windows := hPre_in_windows)
    ∧ quiescent_ReferenceIdeal (hReferenceIdeal := hReferenceIdeal)
    ∧ quiescent_ReferenceIdeal_pre_in_windows (hReferenceIdeal := hReferenceIdeal) (hPre_in_windows := hPre_in_windows)
    ∧ preserves_Kernel_KernelIdeal
    ∧ algebraic_KernelIdeal_ReferenceIdeal (hKernelIdeal := hKernelIdeal) (hReferenceIdeal := hReferenceIdeal) (hPre_in_windows := hPre_in_windows)
-- ==== Pre_in_windows.lean ====
abbrev S2x96x256x256 : Shape := ⟨4, ![2, 96, 256, 256]⟩
abbrev S256 : Shape := ⟨1, ![256]⟩
abbrev S256x1 : Shape := ⟨2, ![256, 1]⟩
abbrev S_ : Shape := ⟨0, ![]⟩
abbrev S1x256 : Shape := ⟨2, ![1, 256]⟩
abbrev S256x256 : Shape := ⟨2, ![256, 256]⟩
abbrev S1x1x256x256 : Shape := ⟨4, ![1, 1, 256, 256]⟩

class Facts : Prop where
  bcast_S256_S256x1_0 : S256.BroadcastsInDim S256x1 (![0] : Fin 1 → Fin S256x1.rank)
  bcast_S_S256x1 : S_.BroadcastsInDim S256x1 (![] : Fin 0 → Fin S256x1.rank)
  bcast_S256_S1x256_1 : S256.BroadcastsInDim S1x256 (![1] : Fin 1 → Fin S1x256.rank)
  bcast_S_S1x256 : S_.BroadcastsInDim S1x256 (![] : Fin 0 → Fin S1x256.rank)
  bcast_S256x1_S256x256_0_1 : S256x1.BroadcastsInDim S256x256 (![0, 1] : Fin 2 → Fin S256x256.rank)
  bcast_S1x256_S256x256_0_1 : S1x256.BroadcastsInDim S256x256 (![0, 1] : Fin 2 → Fin S256x256.rank)
  bcast_S256x256_S1x1x256x256_2_3 : S256x256.BroadcastsInDim S1x1x256x256 (![2, 3] : Fin 2 → Fin S1x1x256x256.rank)
  bcast_S1x1x256x256_S2x96x256x256_0_1_2_3 : S1x1x256x256.BroadcastsInDim S2x96x256x256 (![0, 1, 2, 3] : Fin 4 → Fin S2x96x256x256.rank)
  bcast_S_S2x96x256x256 : S_.BroadcastsInDim S2x96x256x256 (![] : Fin 0 → Fin S2x96x256x256.rank)
  reducesTo_S2x96x256x256_S_d0_1_2_3 : S2x96x256x256.ReducesTo [0, 1, 2, 3] S_
  h_S_ : 0 < S_.numel

variable [Facts]

def fn_part1 {F : FTy → Type} [FloatOps F] (main_v15 : IVec S2x96x256x256 32) (main_v17 : IVec S2x96x256x256 1) (main_v18 : IVec S2x96x256x256 32) : IVec S_ 1 :=
  let main_v19 : IVec S2x96x256x256 1 := cmpi .eq main_v15 main_v18
  let main_v20 : IVec S2x96x256x256 1 := ori main_v17 main_v19
  let main_c_4 : IVec S_ 32 := constantI S_ 32 512#32
  let main_v21 : IVec S2x96x256x256 32 := broadcastInDim S2x96x256x256 ![] bcast_S_S2x96x256x256 main_c_4
  let main_v22 : IVec S2x96x256x256 1 := cmpi .eq main_v15 main_v21
  let main_v23 : IVec S2x96x256x256 1 := ori main_v20 main_v22
  let main_c_5 : IVec S_ 32 := constantI S_ 32 513#32
  let main_v24 : IVec S2x96x256x256 32 := broadcastInDim S2x96x256x256 ![] bcast_S_S2x96x256x256 main_c_5
  let main_v25 : IVec S2x96x256x256 1 := cmpi .eq main_v15 main_v24
  let main_v26 : IVec S2x96x256x256 1 := ori main_v23 main_v25
  let main_c_6 : IVec S_ 1 := constantI S_ 1 1#1
  let main_v27 : IVec S_ 1 := (fun x v => Host.reduce IntOp.andi x v reducesTo_S2x96x256x256_S_d0_1_2_3 h_S_) main_v26 main_c_6
  main_v27

def fn {F : FTy → Type} [FloatOps F] (main_arg0 : FVec F S2x96x256x256 .f32) (main_arg1 : IVec S2x96x256x256 32) : IVec S_ 1 :=
  let main_v0 : IVec S256 32 := iotaInDim S256 32 0
  let main_v1 : IVec S256x1 32 := broadcastInDim S256x1 ![0] bcast_S256_S256x1_0 main_v0
  let main_c : IVec S_ 32 := constantI S_ 32 2#32
  let main_v2 : IVec S256x1 32 := broadcastInDim S256x1 ![] bcast_S_S256x1 main_c
  let main_v3 : IVec S256x1 32 := muli main_v2 main_v1
  let main_c_0 : IVec S_ 32 := constantI S_ 32 512#32
  let main_v4 : IVec S256x1 32 := broadcastInDim S256x1 ![] bcast_S_S256x1 main_c_0
  let main_v5 : IVec S256x1 32 := muli main_v3 main_v4
  let main_v6 : IVec S256 32 := iotaInDim S256 32 0
  let main_v7 : IVec S1x256 32 := broadcastInDim S1x256 ![1] bcast_S256_S1x256_1 main_v6
  let main_c_1 : IVec S_ 32 := constantI S_ 32 2#32
  let main_v8 : IVec S1x256 32 := broadcastInDim S1x256 ![] bcast_S_S1x256 main_c_1
  let main_v9 : IVec S1x256 32 := muli main_v8 main_v7
  let main_v10 : IVec S256x256 32 := broadcastInDim S256x256 ![0, 1] bcast_S256x1_S256x256_0_1 main_v5
  let main_v11 : IVec S256x256 32 := broadcastInDim S256x256 ![0, 1] bcast_S1x256_S256x256_0_1 main_v9
  let main_v12 : IVec S256x256 32 := addi main_v10 main_v11
  let main_v13 : IVec S1x1x256x256 32 := broadcastInDim S1x1x256x256 ![2, 3] bcast_S256x256_S1x1x256x256_2_3 main_v12
  let main_v14 : IVec S2x96x256x256 32 := broadcastInDim S2x96x256x256 ![0, 1, 2, 3] bcast_S1x1x256x256_S2x96x256x256_0_1_2_3 main_v13
  let main_v15 : IVec S2x96x256x256 32 := subi main_arg1 main_v14
  let main_c_2 : IVec S_ 32 := constantI S_ 32 0#32
  let main_v16 : IVec S2x96x256x256 32 := broadcastInDim S2x96x256x256 ![] bcast_S_S2x96x256x256 main_c_2
  let main_v17 : IVec S2x96x256x256 1 := cmpi .eq main_v15 main_v16
  let main_c_3 : IVec S_ 32 := constantI S_ 32 1#32
  let main_v18 : IVec S2x96x256x256 32 := broadcastInDim S2x96x256x256 ![] bcast_S_S2x96x256x256 main_c_3
  fn_part1 (F := F) main_v15 main_v17 main_v18
-- ==== Kernel.lean ====
abbrev S2x96x256x256 : Shape := ⟨4, ![2, 96, 256, 256]⟩
abbrev S2x96x512x512 : Shape := ⟨4, ![2, 96, 512, 512]⟩
abbrev S32x256 : Shape := ⟨2, ![32, 256]⟩
abbrev S64x512 : Shape := ⟨2, ![64, 512]⟩
abbrev S_ : Shape := ⟨0, ![]⟩
abbrev S1x1x32x256 : Shape := ⟨4, ![1, 1, 32, 256]⟩
abbrev S1x1x64x512 : Shape := ⟨4, ![1, 1, 64, 512]⟩
abbrev S16 : Shape := ⟨1, ![16]⟩
abbrev S1x16 : Shape := ⟨2, ![1, 16]⟩

abbrev nBuf : Table → Nat
  | .hbm => 3
  | .local .scVector .vmem => 6
  | _ => 0

abbrev bufTy : (tb : Table) → Fin (nBuf tb) → BufTy
  | .hbm, ⟨0, _⟩ => ⟨S2x96x256x256, .f32⟩
  | .hbm, ⟨1, _⟩ => ⟨S2x96x256x256, .i32⟩
  | .hbm, ⟨2, _⟩ => ⟨S2x96x512x512, .f32⟩
  | .local .scVector .vmem, ⟨0, _⟩ => ⟨S32x256, .f32⟩
  | .local .scVector .vmem, ⟨1, _⟩ => ⟨S32x256, .f32⟩
  | .local .scVector .vmem, ⟨2, _⟩ => ⟨S32x256, .i32⟩
  | .local .scVector .vmem, ⟨3, _⟩ => ⟨S32x256, .i32⟩
  | .local .scVector .vmem, ⟨4, _⟩ => ⟨S64x512, .f32⟩
  | .local .scVector .vmem, ⟨5, _⟩ => ⟨S64x512, .f32⟩
  | _, _ => ⟨S2x96x256x256, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.shrsi v1 c4_i32
  let c15_i32 : BitVec 32 := 15#32
  let v3 : BitVec 32 := Scalar.andi v1 c15_i32
  let c6_i32 : BitVec 32 := 6#32
  let v4 : BitVec 32 := Scalar.muli v3 c6_i32
  let c0_i32 : BitVec 32 := 0#32
  let v5 : BitVec 32 := Scalar.addi v4 c0_i32
  let c0_i32_1 : BitVec 32 := 0#32
  let c0_i32_2 : BitVec 32 := 0#32
  ![v2.toNat, v5.toNat, 0, 0]
def k0_off2 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.shrsi v1 c4_i32
  let c15_i32 : BitVec 32 := 15#32
  let v3 : BitVec 32 := Scalar.andi v1 c15_i32
  let c6_i32 : BitVec 32 := 6#32
  let v4 : BitVec 32 := Scalar.muli v3 c6_i32
  let c0_i32_9 : BitVec 32 := 0#32
  let v15 : BitVec 32 := Scalar.addi v4 c0_i32_9
  let c32_i32 : BitVec 32 := 32#32
  let c0_i32_11 : BitVec 32 := 0#32
  ![v2.toNat, v15.toNat, 32, 0]
@[reducible] def k0_t1_loop : Scf.Loop 32 :=
  let c0_i32_19 : BitVec 32 := 0#32
  let c24_i32 : BitVec 32 := 24#32
  let v25 : BitVec 32 := Scalar.addi c0_i32_19 c24_i32
  let c1_i32 : BitVec 32 := 1#32
  ⟨c0_i32_19, v25, c1_i32⟩
def k0_off3 (i : grid0.Coords) (k0_t1 : Fin k0_t1_loop.trips) (c0_i32_29 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.shrsi v1 c4_i32
  let c15_i32 : BitVec 32 := 15#32
  let v3 : BitVec 32 := Scalar.andi v1 c15_i32
  let c6_i32 : BitVec 32 := 6#32
  let v4 : BitVec 32 := Scalar.muli v3 c6_i32
  let c0_i32_19 : BitVec 32 := 0#32
  let c1_i32 : BitVec 32 := 1#32
  let arg17 : BitVec 32 := Scf.iv c0_i32_19 c1_i32 k0_t1
  let c2_i32_28 : BitVec 32 := 2#32
  let v36 : BitVec 32 := Scalar.muli arg17 c2_i32_28
  let v37 : BitVec 32 := Scalar.addi v36 c0_i32_29
  let c3_i32 : BitVec 32 := 3#32
  let v38 : BitVec 32 := Scalar.shrsi v37 c3_i32
  let v40 : BitVec 32 := Scalar.addi v4 v38
  let c7_i32 : BitVec 32 := 7#32
  let v39 : BitVec 32 := Scalar.andi v37 c7_i32
  let c32_i32_30 : BitVec 32 := 32#32
  let v41 : BitVec 32 := Scalar.muli v39 c32_i32_30
  let c0_i32_32 : BitVec 32 := 0#32
  ![v2.toNat, v40.toNat, v41.toNat, 0]
def k0_cond1 (k0_t1 : Fin k0_t1_loop.trips) : BitVec 1 :=
  let c0_i32_19 : BitVec 32 := 0#32
  let c1_i32 : BitVec 32 := 1#32
  let arg17 : BitVec 32 := Scf.iv c0_i32_19 c1_i32 k0_t1
  let c2_i32_28 : BitVec 32 := 2#32
  let v36 : BitVec 32 := Scalar.muli arg17 c2_i32_28
  let c0_i32_29 : BitVec 32 := 0#32
  let v37 : BitVec 32 := Scalar.addi v36 c0_i32_29
  let c2_i32_36 : BitVec 32 := 2#32
  let v52 : BitVec 1 := Scalar.cmpi .sge v37 c2_i32_36
  let v53 : BitVec 32 := Scalar.extui v52
  let c0_i32_37 : BitVec 32 := 0#32
  let v54 : BitVec 1 := Scalar.cmpi .ne v53 c0_i32_37
  v54

def k0_off4 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.shrsi v1 c4_i32
  let c15_i32 : BitVec 32 := 15#32
  let v3 : BitVec 32 := Scalar.andi v1 c15_i32
  let c6_i32 : BitVec 32 := 6#32
  let v4 : BitVec 32 := Scalar.muli v3 c6_i32
  let c0_i32_19 : BitVec 32 := 0#32
  let c1_i32 : BitVec 32 := 1#32
  let arg17 : BitVec 32 := Scf.iv c0_i32_19 c1_i32 k0_t1
  let c2_i32_28 : BitVec 32 := 2#32
  let v36 : BitVec 32 := Scalar.muli arg17 c2_i32_28
  let c0_i32_29 : BitVec 32 := 0#32
  let v37 : BitVec 32 := Scalar.addi v36 c0_i32_29
  let c2_i32_82 : BitVec 32 := 2#32
  let v110 : BitVec 32 := Scalar.subi v37 c2_i32_82
  let c3_i32_83 : BitVec 32 := 3#32
  let v111 : BitVec 32 := Scalar.shrsi v110 c3_i32_83
  let v113 : BitVec 32 := Scalar.addi v4 v111
  let c7_i32_84 : BitVec 32 := 7#32
  let v112 : BitVec 32 := Scalar.andi v110 c7_i32_84
  let c2_i32_85 : BitVec 32 := 2#32
  let v114 : BitVec 32 := Scalar.muli v112 c2_i32_85
  let c32_i32_86 : BitVec 32 := 32#32
  let v115 : BitVec 32 := Scalar.muli v114 c32_i32_86
  let c0_i32_87 : BitVec 32 := 0#32
  ![v2.toNat, v113.toNat, v115.toNat, 0]
@[reducible] def k0_t2_loop : Scf.Loop 32 :=
  let c0_i32_41 : BitVec 32 := 0#32
  let c32_i32_42 : BitVec 32 := 32#32
  let v59 : BitVec 32 := Scalar.addi c0_i32_41 c32_i32_42
  let c1_i32_43 : BitVec 32 := 1#32
  ⟨c0_i32_41, v59, c1_i32_43⟩
def k0_off5 (k0_t2 : Fin k0_t2_loop.trips) : Fin 2 → Nat :=
  let c2_i32_84 : BitVec 32 := 2#32
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v112 : BitVec 32 := Scalar.muli c2_i32_84 v111
  let v114 : Index := Scalar.indexCast v112
  let c0 : Index := 0#32
  ![v114.toNat, 0]
def k0_off6 (k0_t2 : Fin k0_t2_loop.trips) : Fin 2 → Nat :=
  let c2_i32_84 : BitVec 32 := 2#32
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v112 : BitVec 32 := Scalar.muli c2_i32_84 v111
  let c1_i32_85 : BitVec 32 := 1#32
  let v113 : BitVec 32 := Scalar.addi v112 c1_i32_85
  let v116 : Index := Scalar.indexCast v113
  let c0_86 : Index := 0#32
  ![v116.toNat, 0]
def k0_off7 (k0_t2 : Fin k0_t2_loop.trips) : Fin 2 → Nat :=
  let c2_i32_84 : BitVec 32 := 2#32
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v112 : BitVec 32 := Scalar.muli c2_i32_84 v111
  let v118 : Index := Scalar.indexCast v112
  let c16 : Index := 16#32
  ![v118.toNat, 16]
def k0_off8 (k0_t2 : Fin k0_t2_loop.trips) : Fin 2 → Nat :=
  let c2_i32_84 : BitVec 32 := 2#32
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v112 : BitVec 32 := Scalar.muli c2_i32_84 v111
  let c1_i32_85 : BitVec 32 := 1#32
  let v113 : BitVec 32 := Scalar.addi v112 c1_i32_85
  let v120 : Index := Scalar.indexCast v113
  let c16_87 : Index := 16#32
  ![v120.toNat, 16]
def k0_off9 (k0_t2 : Fin k0_t2_loop.trips) : Fin 2 → Nat :=
  let c2_i32_84 : BitVec 32 := 2#32
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v112 : BitVec 32 := Scalar.muli c2_i32_84 v111
  let v122 : Index := Scalar.indexCast v112
  let c32 : Index := 32#32
  ![v122.toNat, 32]
def k0_off10 (k0_t2 : Fin k0_t2_loop.trips) : Fin 2 → Nat :=
  let c2_i32_84 : BitVec 32 := 2#32
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v112 : BitVec 32 := Scalar.muli c2_i32_84 v111
  let c1_i32_85 : BitVec 32 := 1#32
  let v113 : BitVec 32 := Scalar.addi v112 c1_i32_85
  let v124 : Index := Scalar.indexCast v113
  let c32_88 : Index := 32#32
  ![v124.toNat, 32]
def k0_off11 (k0_t2 : Fin k0_t2_loop.trips) : Fin 2 → Nat :=
  let c2_i32_84 : BitVec 32 := 2#32
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v112 : BitVec 32 := Scalar.muli c2_i32_84 v111
  let v126 : Index := Scalar.indexCast v112
  let c48 : Index := 48#32
  ![v126.toNat, 48]
def k0_off12 (k0_t2 : Fin k0_t2_loop.trips) : Fin 2 → Nat :=
  let c2_i32_84 : BitVec 32 := 2#32
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v112 : BitVec 32 := Scalar.muli c2_i32_84 v111
  let c1_i32_85 : BitVec 32 := 1#32
  let v113 : BitVec 32 := Scalar.addi v112 c1_i32_85
  let v128 : Index := Scalar.indexCast v113
  let c48_89 : Index := 48#32
  ![v128.toNat, 48]
def k0_off13 (k0_t2 : Fin k0_t2_loop.trips) : Fin 2 → Nat :=
  let c2_i32_84 : BitVec 32 := 2#32
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v112 : BitVec 32 := Scalar.muli c2_i32_84 v111
  let v130 : Index := Scalar.indexCast v112
  let c64 : Index := 64#32
  ![v130.toNat, 64]
def k0_off14 (k0_t2 : Fin k0_t2_loop.trips) : Fin 2 → Nat :=
  let c2_i32_84 : BitVec 32 := 2#32
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v112 : BitVec 32 := Scalar.muli c2_i32_84 v111
  let c1_i32_85 : BitVec 32 := 1#32
  let v113 : BitVec 32 := Scalar.addi v112 c1_i32_85
  let v132 : Index := Scalar.indexCast v113
  let c64_90 : Index := 64#32
  ![v132.toNat, 64]
def k0_off15 (k0_t2 : Fin k0_t2_loop.trips) : Fin 2 → Nat :=
  let c2_i32_84 : BitVec 32 := 2#32
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v112 : BitVec 32 := Scalar.muli c2_i32_84 v111
  let v134 : Index := Scalar.indexCast v112
  let c80 : Index := 80#32
  ![v134.toNat, 80]
def k0_off16 (k0_t2 : Fin k0_t2_loop.trips) : Fin 2 → Nat :=
  let c2_i32_84 : BitVec 32 := 2#32
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v112 : BitVec 32 := Scalar.muli c2_i32_84 v111
  let c1_i32_85 : BitVec 32 := 1#32
  let v113 : BitVec 32 := Scalar.addi v112 c1_i32_85
  let v136 : Index := Scalar.indexCast v113
  let c80_91 : Index := 80#32
  ![v136.toNat, 80]
def k0_off17 (k0_t2 : Fin k0_t2_loop.trips) : Fin 2 → Nat :=
  let c2_i32_84 : BitVec 32 := 2#32
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v112 : BitVec 32 := Scalar.muli c2_i32_84 v111
  let v138 : Index := Scalar.indexCast v112
  let c96 : Index := 96#32
  ![v138.toNat, 96]
def k0_off18 (k0_t2 : Fin k0_t2_loop.trips) : Fin 2 → Nat :=
  let c2_i32_84 : BitVec 32 := 2#32
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v112 : BitVec 32 := Scalar.muli c2_i32_84 v111
  let c1_i32_85 : BitVec 32 := 1#32
  let v113 : BitVec 32 := Scalar.addi v112 c1_i32_85
  let v140 : Index := Scalar.indexCast v113
  let c96_92 : Index := 96#32
  ![v140.toNat, 96]
def k0_off19 (k0_t2 : Fin k0_t2_loop.trips) : Fin 2 → Nat :=
  let c2_i32_84 : BitVec 32 := 2#32
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v112 : BitVec 32 := Scalar.muli c2_i32_84 v111
  let v142 : Index := Scalar.indexCast v112
  let c112 : Index := 112#32
  ![v142.toNat, 112]
def k0_off20 (k0_t2 : Fin k0_t2_loop.trips) : Fin 2 → Nat :=
  let c2_i32_84 : BitVec 32 := 2#32
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v112 : BitVec 32 := Scalar.muli c2_i32_84 v111
  let c1_i32_85 : BitVec 32 := 1#32
  let v113 : BitVec 32 := Scalar.addi v112 c1_i32_85
  let v144 : Index := Scalar.indexCast v113
  let c112_93 : Index := 112#32
  ![v144.toNat, 112]
def k0_off21 (k0_t2 : Fin k0_t2_loop.trips) : Fin 2 → Nat :=
  let c2_i32_84 : BitVec 32 := 2#32
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v112 : BitVec 32 := Scalar.muli c2_i32_84 v111
  let v146 : Index := Scalar.indexCast v112
  let c128 : Index := 128#32
  ![v146.toNat, 128]
def k0_off22 (k0_t2 : Fin k0_t2_loop.trips) : Fin 2 → Nat :=
  let c2_i32_84 : BitVec 32 := 2#32
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v112 : BitVec 32 := Scalar.muli c2_i32_84 v111
  let c1_i32_85 : BitVec 32 := 1#32
  let v113 : BitVec 32 := Scalar.addi v112 c1_i32_85
  let v148 : Index := Scalar.indexCast v113
  let c128_94 : Index := 128#32
  ![v148.toNat, 128]
def k0_off23 (k0_t2 : Fin k0_t2_loop.trips) : Fin 2 → Nat :=
  let c2_i32_84 : BitVec 32 := 2#32
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v112 : BitVec 32 := Scalar.muli c2_i32_84 v111
  let v150 : Index := Scalar.indexCast v112
  let c144 : Index := 144#32
  ![v150.toNat, 144]
def k0_off24 (k0_t2 : Fin k0_t2_loop.trips) : Fin 2 → Nat :=
  let c2_i32_84 : BitVec 32 := 2#32
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v112 : BitVec 32 := Scalar.muli c2_i32_84 v111
  let c1_i32_85 : BitVec 32 := 1#32
  let v113 : BitVec 32 := Scalar.addi v112 c1_i32_85
  let v152 : Index := Scalar.indexCast v113
  let c144_95 : Index := 144#32
  ![v152.toNat, 144]
def k0_off25 (k0_t2 : Fin k0_t2_loop.trips) : Fin 2 → Nat :=
  let c2_i32_84 : BitVec 32 := 2#32
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v112 : BitVec 32 := Scalar.muli c2_i32_84 v111
  let v154 : Index := Scalar.indexCast v112
  let c160 : Index := 160#32
  ![v154.toNat, 160]
def k0_off26 (k0_t2 : Fin k0_t2_loop.trips) : Fin 2 → Nat :=
  let c2_i32_84 : BitVec 32 := 2#32
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v112 : BitVec 32 := Scalar.muli c2_i32_84 v111
  let c1_i32_85 : BitVec 32 := 1#32
  let v113 : BitVec 32 := Scalar.addi v112 c1_i32_85
  let v156 : Index := Scalar.indexCast v113
  let c160_96 : Index := 160#32
  ![v156.toNat, 160]
def k0_off27 (k0_t2 : Fin k0_t2_loop.trips) : Fin 2 → Nat :=
  let c2_i32_84 : BitVec 32 := 2#32
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v112 : BitVec 32 := Scalar.muli c2_i32_84 v111
  let v158 : Index := Scalar.indexCast v112
  let c176 : Index := 176#32
  ![v158.toNat, 176]
def k0_off28 (k0_t2 : Fin k0_t2_loop.trips) : Fin 2 → Nat :=
  let c2_i32_84 : BitVec 32 := 2#32
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v112 : BitVec 32 := Scalar.muli c2_i32_84 v111
  let c1_i32_85 : BitVec 32 := 1#32
  let v113 : BitVec 32 := Scalar.addi v112 c1_i32_85
  let v160 : Index := Scalar.indexCast v113
  let c176_97 : Index := 176#32
  ![v160.toNat, 176]
def k0_off29 (k0_t2 : Fin k0_t2_loop.trips) : Fin 2 → Nat :=
  let c2_i32_84 : BitVec 32 := 2#32
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v112 : BitVec 32 := Scalar.muli c2_i32_84 v111
  let v162 : Index := Scalar.indexCast v112
  let c192 : Index := 192#32
  ![v162.toNat, 192]
def k0_off30 (k0_t2 : Fin k0_t2_loop.trips) : Fin 2 → Nat :=
  let c2_i32_84 : BitVec 32 := 2#32
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v112 : BitVec 32 := Scalar.muli c2_i32_84 v111
  let c1_i32_85 : BitVec 32 := 1#32
  let v113 : BitVec 32 := Scalar.addi v112 c1_i32_85
  let v164 : Index := Scalar.indexCast v113
  let c192_98 : Index := 192#32
  ![v164.toNat, 192]
def k0_off31 (k0_t2 : Fin k0_t2_loop.trips) : Fin 2 → Nat :=
  let c2_i32_84 : BitVec 32 := 2#32
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v112 : BitVec 32 := Scalar.muli c2_i32_84 v111
  let v166 : Index := Scalar.indexCast v112
  let c208 : Index := 208#32
  ![v166.toNat, 208]
def k0_off32 (k0_t2 : Fin k0_t2_loop.trips) : Fin 2 → Nat :=
  let c2_i32_84 : BitVec 32 := 2#32
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v112 : BitVec 32 := Scalar.muli c2_i32_84 v111
  let c1_i32_85 : BitVec 32 := 1#32
  let v113 : BitVec 32 := Scalar.addi v112 c1_i32_85
  let v168 : Index := Scalar.indexCast v113
  let c208_99 : Index := 208#32
  ![v168.toNat, 208]
def k0_off33 (k0_t2 : Fin k0_t2_loop.trips) : Fin 2 → Nat :=
  let c2_i32_84 : BitVec 32 := 2#32
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v112 : BitVec 32 := Scalar.muli c2_i32_84 v111
  let v170 : Index := Scalar.indexCast v112
  let c224 : Index := 224#32
  ![v170.toNat, 224]
def k0_off34 (k0_t2 : Fin k0_t2_loop.trips) : Fin 2 → Nat :=
  let c2_i32_84 : BitVec 32 := 2#32
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v112 : BitVec 32 := Scalar.muli c2_i32_84 v111
  let c1_i32_85 : BitVec 32 := 1#32
  let v113 : BitVec 32 := Scalar.addi v112 c1_i32_85
  let v172 : Index := Scalar.indexCast v113
  let c224_100 : Index := 224#32
  ![v172.toNat, 224]
def k0_off35 (k0_t2 : Fin k0_t2_loop.trips) : Fin 2 → Nat :=
  let c2_i32_84 : BitVec 32 := 2#32
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v112 : BitVec 32 := Scalar.muli c2_i32_84 v111
  let v174 : Index := Scalar.indexCast v112
  let c240 : Index := 240#32
  ![v174.toNat, 240]
def k0_off36 (k0_t2 : Fin k0_t2_loop.trips) : Fin 2 → Nat :=
  let c2_i32_84 : BitVec 32 := 2#32
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v112 : BitVec 32 := Scalar.muli c2_i32_84 v111
  let c1_i32_85 : BitVec 32 := 1#32
  let v113 : BitVec 32 := Scalar.addi v112 c1_i32_85
  let v176 : Index := Scalar.indexCast v113
  let c240_101 : Index := 240#32
  ![v176.toNat, 240]
def k0_off37 (k0_t2 : Fin k0_t2_loop.trips) : Fin 2 → Nat :=
  let c2_i32_84 : BitVec 32 := 2#32
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v112 : BitVec 32 := Scalar.muli c2_i32_84 v111
  let v178 : Index := Scalar.indexCast v112
  let c256 : Index := 256#32
  ![v178.toNat, 256]
def k0_off38 (k0_t2 : Fin k0_t2_loop.trips) : Fin 2 → Nat :=
  let c2_i32_84 : BitVec 32 := 2#32
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v112 : BitVec 32 := Scalar.muli c2_i32_84 v111
  let c1_i32_85 : BitVec 32 := 1#32
  let v113 : BitVec 32 := Scalar.addi v112 c1_i32_85
  let v180 : Index := Scalar.indexCast v113
  let c256_102 : Index := 256#32
  ![v180.toNat, 256]
def k0_off39 (k0_t2 : Fin k0_t2_loop.trips) : Fin 2 → Nat :=
  let c2_i32_84 : BitVec 32 := 2#32
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v112 : BitVec 32 := Scalar.muli c2_i32_84 v111
  let v182 : Index := Scalar.indexCast v112
  let c272 : Index := 272#32
  ![v182.toNat, 272]
def k0_off40 (k0_t2 : Fin k0_t2_loop.trips) : Fin 2 → Nat :=
  let c2_i32_84 : BitVec 32 := 2#32
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v112 : BitVec 32 := Scalar.muli c2_i32_84 v111
  let c1_i32_85 : BitVec 32 := 1#32
  let v113 : BitVec 32 := Scalar.addi v112 c1_i32_85
  let v184 : Index := Scalar.indexCast v113
  let c272_103 : Index := 272#32
  ![v184.toNat, 272]
def k0_off41 (k0_t2 : Fin k0_t2_loop.trips) : Fin 2 → Nat :=
  let c2_i32_84 : BitVec 32 := 2#32
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v112 : BitVec 32 := Scalar.muli c2_i32_84 v111
  let v186 : Index := Scalar.indexCast v112
  let c288 : Index := 288#32
  ![v186.toNat, 288]
def k0_off42 (k0_t2 : Fin k0_t2_loop.trips) : Fin 2 → Nat :=
  let c2_i32_84 : BitVec 32 := 2#32
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v112 : BitVec 32 := Scalar.muli c2_i32_84 v111
  let c1_i32_85 : BitVec 32 := 1#32
  let v113 : BitVec 32 := Scalar.addi v112 c1_i32_85
  let v188 : Index := Scalar.indexCast v113
  let c288_104 : Index := 288#32
  ![v188.toNat, 288]
def k0_off43 (k0_t2 : Fin k0_t2_loop.trips) : Fin 2 → Nat :=
  let c2_i32_84 : BitVec 32 := 2#32
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v112 : BitVec 32 := Scalar.muli c2_i32_84 v111
  let v190 : Index := Scalar.indexCast v112
  let c304 : Index := 304#32
  ![v190.toNat, 304]
def k0_off44 (k0_t2 : Fin k0_t2_loop.trips) : Fin 2 → Nat :=
  let c2_i32_84 : BitVec 32 := 2#32
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v112 : BitVec 32 := Scalar.muli c2_i32_84 v111
  let c1_i32_85 : BitVec 32 := 1#32
  let v113 : BitVec 32 := Scalar.addi v112 c1_i32_85
  let v192 : Index := Scalar.indexCast v113
  let c304_105 : Index := 304#32
  ![v192.toNat, 304]
def k0_off45 (k0_t2 : Fin k0_t2_loop.trips) : Fin 2 → Nat :=
  let c2_i32_84 : BitVec 32 := 2#32
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v112 : BitVec 32 := Scalar.muli c2_i32_84 v111
  let v194 : Index := Scalar.indexCast v112
  let c320 : Index := 320#32
  ![v194.toNat, 320]
def k0_off46 (k0_t2 : Fin k0_t2_loop.trips) : Fin 2 → Nat :=
  let c2_i32_84 : BitVec 32 := 2#32
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v112 : BitVec 32 := Scalar.muli c2_i32_84 v111
  let c1_i32_85 : BitVec 32 := 1#32
  let v113 : BitVec 32 := Scalar.addi v112 c1_i32_85
  let v196 : Index := Scalar.indexCast v113
  let c320_106 : Index := 320#32
  ![v196.toNat, 320]
def k0_off47 (k0_t2 : Fin k0_t2_loop.trips) : Fin 2 → Nat :=
  let c2_i32_84 : BitVec 32 := 2#32
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v112 : BitVec 32 := Scalar.muli c2_i32_84 v111
  let v198 : Index := Scalar.indexCast v112
  let c336 : Index := 336#32
  ![v198.toNat, 336]
def k0_off48 (k0_t2 : Fin k0_t2_loop.trips) : Fin 2 → Nat :=
  let c2_i32_84 : BitVec 32 := 2#32
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v112 : BitVec 32 := Scalar.muli c2_i32_84 v111
  let c1_i32_85 : BitVec 32 := 1#32
  let v113 : BitVec 32 := Scalar.addi v112 c1_i32_85
  let v200 : Index := Scalar.indexCast v113
  let c336_107 : Index := 336#32
  ![v200.toNat, 336]
def k0_off49 (k0_t2 : Fin k0_t2_loop.trips) : Fin 2 → Nat :=
  let c2_i32_84 : BitVec 32 := 2#32
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v112 : BitVec 32 := Scalar.muli c2_i32_84 v111
  let v202 : Index := Scalar.indexCast v112
  let c352 : Index := 352#32
  ![v202.toNat, 352]
def k0_off50 (k0_t2 : Fin k0_t2_loop.trips) : Fin 2 → Nat :=
  let c2_i32_84 : BitVec 32 := 2#32
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v112 : BitVec 32 := Scalar.muli c2_i32_84 v111
  let c1_i32_85 : BitVec 32 := 1#32
  let v113 : BitVec 32 := Scalar.addi v112 c1_i32_85
  let v204 : Index := Scalar.indexCast v113
  let c352_108 : Index := 352#32
  ![v204.toNat, 352]
def k0_off51 (k0_t2 : Fin k0_t2_loop.trips) : Fin 2 → Nat :=
  let c2_i32_84 : BitVec 32 := 2#32
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v112 : BitVec 32 := Scalar.muli c2_i32_84 v111
  let v206 : Index := Scalar.indexCast v112
  let c368 : Index := 368#32
  ![v206.toNat, 368]
def k0_off52 (k0_t2 : Fin k0_t2_loop.trips) : Fin 2 → Nat :=
  let c2_i32_84 : BitVec 32 := 2#32
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v112 : BitVec 32 := Scalar.muli c2_i32_84 v111
  let c1_i32_85 : BitVec 32 := 1#32
  let v113 : BitVec 32 := Scalar.addi v112 c1_i32_85
  let v208 : Index := Scalar.indexCast v113
  let c368_109 : Index := 368#32
  ![v208.toNat, 368]
def k0_off53 (k0_t2 : Fin k0_t2_loop.trips) : Fin 2 → Nat :=
  let c2_i32_84 : BitVec 32 := 2#32
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v112 : BitVec 32 := Scalar.muli c2_i32_84 v111
  let v210 : Index := Scalar.indexCast v112
  let c384 : Index := 384#32
  ![v210.toNat, 384]
def k0_off54 (k0_t2 : Fin k0_t2_loop.trips) : Fin 2 → Nat :=
  let c2_i32_84 : BitVec 32 := 2#32
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v112 : BitVec 32 := Scalar.muli c2_i32_84 v111
  let c1_i32_85 : BitVec 32 := 1#32
  let v113 : BitVec 32 := Scalar.addi v112 c1_i32_85
  let v212 : Index := Scalar.indexCast v113
  let c384_110 : Index := 384#32
  ![v212.toNat, 384]
def k0_off55 (k0_t2 : Fin k0_t2_loop.trips) : Fin 2 → Nat :=
  let c2_i32_84 : BitVec 32 := 2#32
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v112 : BitVec 32 := Scalar.muli c2_i32_84 v111
  let v214 : Index := Scalar.indexCast v112
  let c400 : Index := 400#32
  ![v214.toNat, 400]
def k0_off56 (k0_t2 : Fin k0_t2_loop.trips) : Fin 2 → Nat :=
  let c2_i32_84 : BitVec 32 := 2#32
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v112 : BitVec 32 := Scalar.muli c2_i32_84 v111
  let c1_i32_85 : BitVec 32 := 1#32
  let v113 : BitVec 32 := Scalar.addi v112 c1_i32_85
  let v216 : Index := Scalar.indexCast v113
  let c400_111 : Index := 400#32
  ![v216.toNat, 400]
def k0_off57 (k0_t2 : Fin k0_t2_loop.trips) : Fin 2 → Nat :=
  let c2_i32_84 : BitVec 32 := 2#32
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v112 : BitVec 32 := Scalar.muli c2_i32_84 v111
  let v218 : Index := Scalar.indexCast v112
  let c416 : Index := 416#32
  ![v218.toNat, 416]
def k0_off58 (k0_t2 : Fin k0_t2_loop.trips) : Fin 2 → Nat :=
  let c2_i32_84 : BitVec 32 := 2#32
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v112 : BitVec 32 := Scalar.muli c2_i32_84 v111
  let c1_i32_85 : BitVec 32 := 1#32
  let v113 : BitVec 32 := Scalar.addi v112 c1_i32_85
  let v220 : Index := Scalar.indexCast v113
  let c416_112 : Index := 416#32
  ![v220.toNat, 416]
def k0_off59 (k0_t2 : Fin k0_t2_loop.trips) : Fin 2 → Nat :=
  let c2_i32_84 : BitVec 32 := 2#32
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v112 : BitVec 32 := Scalar.muli c2_i32_84 v111
  let v222 : Index := Scalar.indexCast v112
  let c432 : Index := 432#32
  ![v222.toNat, 432]
def k0_off60 (k0_t2 : Fin k0_t2_loop.trips) : Fin 2 → Nat :=
  let c2_i32_84 : BitVec 32 := 2#32
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v112 : BitVec 32 := Scalar.muli c2_i32_84 v111
  let c1_i32_85 : BitVec 32 := 1#32
  let v113 : BitVec 32 := Scalar.addi v112 c1_i32_85
  let v224 : Index := Scalar.indexCast v113
  let c432_113 : Index := 432#32
  ![v224.toNat, 432]
def k0_off61 (k0_t2 : Fin k0_t2_loop.trips) : Fin 2 → Nat :=
  let c2_i32_84 : BitVec 32 := 2#32
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v112 : BitVec 32 := Scalar.muli c2_i32_84 v111
  let v226 : Index := Scalar.indexCast v112
  let c448 : Index := 448#32
  ![v226.toNat, 448]
def k0_off62 (k0_t2 : Fin k0_t2_loop.trips) : Fin 2 → Nat :=
  let c2_i32_84 : BitVec 32 := 2#32
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v112 : BitVec 32 := Scalar.muli c2_i32_84 v111
  let c1_i32_85 : BitVec 32 := 1#32
  let v113 : BitVec 32 := Scalar.addi v112 c1_i32_85
  let v228 : Index := Scalar.indexCast v113
  let c448_114 : Index := 448#32
  ![v228.toNat, 448]
def k0_off63 (k0_t2 : Fin k0_t2_loop.trips) : Fin 2 → Nat :=
  let c2_i32_84 : BitVec 32 := 2#32
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v112 : BitVec 32 := Scalar.muli c2_i32_84 v111
  let v230 : Index := Scalar.indexCast v112
  let c464 : Index := 464#32
  ![v230.toNat, 464]
def k0_off64 (k0_t2 : Fin k0_t2_loop.trips) : Fin 2 → Nat :=
  let c2_i32_84 : BitVec 32 := 2#32
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v112 : BitVec 32 := Scalar.muli c2_i32_84 v111
  let c1_i32_85 : BitVec 32 := 1#32
  let v113 : BitVec 32 := Scalar.addi v112 c1_i32_85
  let v232 : Index := Scalar.indexCast v113
  let c464_115 : Index := 464#32
  ![v232.toNat, 464]
def k0_off65 (k0_t2 : Fin k0_t2_loop.trips) : Fin 2 → Nat :=
  let c2_i32_84 : BitVec 32 := 2#32
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v112 : BitVec 32 := Scalar.muli c2_i32_84 v111
  let v234 : Index := Scalar.indexCast v112
  let c480 : Index := 480#32
  ![v234.toNat, 480]
def k0_off66 (k0_t2 : Fin k0_t2_loop.trips) : Fin 2 → Nat :=
  let c2_i32_84 : BitVec 32 := 2#32
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v112 : BitVec 32 := Scalar.muli c2_i32_84 v111
  let c1_i32_85 : BitVec 32 := 1#32
  let v113 : BitVec 32 := Scalar.addi v112 c1_i32_85
  let v236 : Index := Scalar.indexCast v113
  let c480_116 : Index := 480#32
  ![v236.toNat, 480]
def k0_off67 (k0_t2 : Fin k0_t2_loop.trips) : Fin 2 → Nat :=
  let c2_i32_84 : BitVec 32 := 2#32
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v112 : BitVec 32 := Scalar.muli c2_i32_84 v111
  let v238 : Index := Scalar.indexCast v112
  let c496 : Index := 496#32
  ![v238.toNat, 496]
def k0_off68 (k0_t2 : Fin k0_t2_loop.trips) : Fin 2 → Nat :=
  let c2_i32_84 : BitVec 32 := 2#32
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v112 : BitVec 32 := Scalar.muli c2_i32_84 v111
  let c1_i32_85 : BitVec 32 := 1#32
  let v113 : BitVec 32 := Scalar.addi v112 c1_i32_85
  let v240 : Index := Scalar.indexCast v113
  let c496_117 : Index := 496#32
  ![v240.toNat, 496]
def k0_off69 (k0_t2 : Fin k0_t2_loop.trips) : Fin 2 → Nat :=
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v242 : Index := Scalar.indexCast v111
  let c0_118 : Index := 0#32
  ![v242.toNat, 0]

def k0_chk1 (v249 : IVec S16 32) (v251 : IVec S16 32) : Prop :=
  (∀ a x, ((![v249, v251] : Fin 2 → IVec S16 32) a x).toNat < S64x512.size a)
theorem k0_idx1_inb : ∀ (v249 : IVec S16 32) (v251 : IVec S16 32) (k0_hw1 : k0_chk1 v249 v251), ∀ a x, ((![v249, v251] : Fin 2 → IVec S16 32) a x).toNat < S64x512.size a := fun v249 v251 k0_hw1 => k0_hw1
def k0_off70 (k0_t2 : Fin k0_t2_loop.trips) : Fin 2 → Nat :=
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v252 : Index := Scalar.indexCast v111
  let c16_120 : Index := 16#32
  ![v252.toNat, 16]

def k0_chk2 (v259 : IVec S16 32) (v261 : IVec S16 32) : Prop :=
  (∀ a x, ((![v259, v261] : Fin 2 → IVec S16 32) a x).toNat < S64x512.size a)
theorem k0_idx2_inb : ∀ (v259 : IVec S16 32) (v261 : IVec S16 32) (k0_hw2 : k0_chk2 v259 v261), ∀ a x, ((![v259, v261] : Fin 2 → IVec S16 32) a x).toNat < S64x512.size a := fun v259 v261 k0_hw2 => k0_hw2
def k0_off71 (k0_t2 : Fin k0_t2_loop.trips) : Fin 2 → Nat :=
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v262 : Index := Scalar.indexCast v111
  let c32_124 : Index := 32#32
  ![v262.toNat, 32]

def k0_chk3 (v269 : IVec S16 32) (v271 : IVec S16 32) : Prop :=
  (∀ a x, ((![v269, v271] : Fin 2 → IVec S16 32) a x).toNat < S64x512.size a)
theorem k0_idx3_inb : ∀ (v269 : IVec S16 32) (v271 : IVec S16 32) (k0_hw3 : k0_chk3 v269 v271), ∀ a x, ((![v269, v271] : Fin 2 → IVec S16 32) a x).toNat < S64x512.size a := fun v269 v271 k0_hw3 => k0_hw3
def k0_off72 (k0_t2 : Fin k0_t2_loop.trips) : Fin 2 → Nat :=
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v272 : Index := Scalar.indexCast v111
  let c48_128 : Index := 48#32
  ![v272.toNat, 48]

def k0_chk4 (v279 : IVec S16 32) (v281 : IVec S16 32) : Prop :=
  (∀ a x, ((![v279, v281] : Fin 2 → IVec S16 32) a x).toNat < S64x512.size a)
theorem k0_idx4_inb : ∀ (v279 : IVec S16 32) (v281 : IVec S16 32) (k0_hw4 : k0_chk4 v279 v281), ∀ a x, ((![v279, v281] : Fin 2 → IVec S16 32) a x).toNat < S64x512.size a := fun v279 v281 k0_hw4 => k0_hw4
def k0_off73 (k0_t2 : Fin k0_t2_loop.trips) : Fin 2 → Nat :=
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v282 : Index := Scalar.indexCast v111
  let c64_132 : Index := 64#32
  ![v282.toNat, 64]

def k0_chk5 (v289 : IVec S16 32) (v291 : IVec S16 32) : Prop :=
  (∀ a x, ((![v289, v291] : Fin 2 → IVec S16 32) a x).toNat < S64x512.size a)
theorem k0_idx5_inb : ∀ (v289 : IVec S16 32) (v291 : IVec S16 32) (k0_hw5 : k0_chk5 v289 v291), ∀ a x, ((![v289, v291] : Fin 2 → IVec S16 32) a x).toNat < S64x512.size a := fun v289 v291 k0_hw5 => k0_hw5
def k0_off74 (k0_t2 : Fin k0_t2_loop.trips) : Fin 2 → Nat :=
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v292 : Index := Scalar.indexCast v111
  let c80_136 : Index := 80#32
  ![v292.toNat, 80]

def k0_chk6 (v299 : IVec S16 32) (v301 : IVec S16 32) : Prop :=
  (∀ a x, ((![v299, v301] : Fin 2 → IVec S16 32) a x).toNat < S64x512.size a)
theorem k0_idx6_inb : ∀ (v299 : IVec S16 32) (v301 : IVec S16 32) (k0_hw6 : k0_chk6 v299 v301), ∀ a x, ((![v299, v301] : Fin 2 → IVec S16 32) a x).toNat < S64x512.size a := fun v299 v301 k0_hw6 => k0_hw6
def k0_off75 (k0_t2 : Fin k0_t2_loop.trips) : Fin 2 → Nat :=
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v302 : Index := Scalar.indexCast v111
  let c96_140 : Index := 96#32
  ![v302.toNat, 96]

def k0_chk7 (v309 : IVec S16 32) (v311 : IVec S16 32) : Prop :=
  (∀ a x, ((![v309, v311] : Fin 2 → IVec S16 32) a x).toNat < S64x512.size a)
theorem k0_idx7_inb : ∀ (v309 : IVec S16 32) (v311 : IVec S16 32) (k0_hw7 : k0_chk7 v309 v311), ∀ a x, ((![v309, v311] : Fin 2 → IVec S16 32) a x).toNat < S64x512.size a := fun v309 v311 k0_hw7 => k0_hw7
def k0_off76 (k0_t2 : Fin k0_t2_loop.trips) : Fin 2 → Nat :=
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v312 : Index := Scalar.indexCast v111
  let c112_144 : Index := 112#32
  ![v312.toNat, 112]

def k0_chk8 (v319 : IVec S16 32) (v321 : IVec S16 32) : Prop :=
  (∀ a x, ((![v319, v321] : Fin 2 → IVec S16 32) a x).toNat < S64x512.size a)
theorem k0_idx8_inb : ∀ (v319 : IVec S16 32) (v321 : IVec S16 32) (k0_hw8 : k0_chk8 v319 v321), ∀ a x, ((![v319, v321] : Fin 2 → IVec S16 32) a x).toNat < S64x512.size a := fun v319 v321 k0_hw8 => k0_hw8
def k0_off77 (k0_t2 : Fin k0_t2_loop.trips) : Fin 2 → Nat :=
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v322 : Index := Scalar.indexCast v111
  let c128_148 : Index := 128#32
  ![v322.toNat, 128]

def k0_chk9 (v329 : IVec S16 32) (v331 : IVec S16 32) : Prop :=
  (∀ a x, ((![v329, v331] : Fin 2 → IVec S16 32) a x).toNat < S64x512.size a)
theorem k0_idx9_inb : ∀ (v329 : IVec S16 32) (v331 : IVec S16 32) (k0_hw9 : k0_chk9 v329 v331), ∀ a x, ((![v329, v331] : Fin 2 → IVec S16 32) a x).toNat < S64x512.size a := fun v329 v331 k0_hw9 => k0_hw9
def k0_off78 (k0_t2 : Fin k0_t2_loop.trips) : Fin 2 → Nat :=
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v332 : Index := Scalar.indexCast v111
  let c144_152 : Index := 144#32
  ![v332.toNat, 144]

def k0_chk10 (v339 : IVec S16 32) (v341 : IVec S16 32) : Prop :=
  (∀ a x, ((![v339, v341] : Fin 2 → IVec S16 32) a x).toNat < S64x512.size a)
theorem k0_idx10_inb : ∀ (v339 : IVec S16 32) (v341 : IVec S16 32) (k0_hw10 : k0_chk10 v339 v341), ∀ a x, ((![v339, v341] : Fin 2 → IVec S16 32) a x).toNat < S64x512.size a := fun v339 v341 k0_hw10 => k0_hw10
def k0_off79 (k0_t2 : Fin k0_t2_loop.trips) : Fin 2 → Nat :=
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v342 : Index := Scalar.indexCast v111
  let c160_156 : Index := 160#32
  ![v342.toNat, 160]

def k0_chk11 (v349 : IVec S16 32) (v351 : IVec S16 32) : Prop :=
  (∀ a x, ((![v349, v351] : Fin 2 → IVec S16 32) a x).toNat < S64x512.size a)
theorem k0_idx11_inb : ∀ (v349 : IVec S16 32) (v351 : IVec S16 32) (k0_hw11 : k0_chk11 v349 v351), ∀ a x, ((![v349, v351] : Fin 2 → IVec S16 32) a x).toNat < S64x512.size a := fun v349 v351 k0_hw11 => k0_hw11
def k0_off80 (k0_t2 : Fin k0_t2_loop.trips) : Fin 2 → Nat :=
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v352 : Index := Scalar.indexCast v111
  let c176_160 : Index := 176#32
  ![v352.toNat, 176]

def k0_chk12 (v359 : IVec S16 32) (v361 : IVec S16 32) : Prop :=
  (∀ a x, ((![v359, v361] : Fin 2 → IVec S16 32) a x).toNat < S64x512.size a)
theorem k0_idx12_inb : ∀ (v359 : IVec S16 32) (v361 : IVec S16 32) (k0_hw12 : k0_chk12 v359 v361), ∀ a x, ((![v359, v361] : Fin 2 → IVec S16 32) a x).toNat < S64x512.size a := fun v359 v361 k0_hw12 => k0_hw12
def k0_off81 (k0_t2 : Fin k0_t2_loop.trips) : Fin 2 → Nat :=
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v362 : Index := Scalar.indexCast v111
  let c192_164 : Index := 192#32
  ![v362.toNat, 192]

def k0_chk13 (v369 : IVec S16 32) (v371 : IVec S16 32) : Prop :=
  (∀ a x, ((![v369, v371] : Fin 2 → IVec S16 32) a x).toNat < S64x512.size a)
theorem k0_idx13_inb : ∀ (v369 : IVec S16 32) (v371 : IVec S16 32) (k0_hw13 : k0_chk13 v369 v371), ∀ a x, ((![v369, v371] : Fin 2 → IVec S16 32) a x).toNat < S64x512.size a := fun v369 v371 k0_hw13 => k0_hw13
def k0_off82 (k0_t2 : Fin k0_t2_loop.trips) : Fin 2 → Nat :=
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v372 : Index := Scalar.indexCast v111
  let c208_168 : Index := 208#32
  ![v372.toNat, 208]

def k0_chk14 (v379 : IVec S16 32) (v381 : IVec S16 32) : Prop :=
  (∀ a x, ((![v379, v381] : Fin 2 → IVec S16 32) a x).toNat < S64x512.size a)
theorem k0_idx14_inb : ∀ (v379 : IVec S16 32) (v381 : IVec S16 32) (k0_hw14 : k0_chk14 v379 v381), ∀ a x, ((![v379, v381] : Fin 2 → IVec S16 32) a x).toNat < S64x512.size a := fun v379 v381 k0_hw14 => k0_hw14
def k0_off83 (k0_t2 : Fin k0_t2_loop.trips) : Fin 2 → Nat :=
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v382 : Index := Scalar.indexCast v111
  let c224_172 : Index := 224#32
  ![v382.toNat, 224]

def k0_chk15 (v389 : IVec S16 32) (v391 : IVec S16 32) : Prop :=
  (∀ a x, ((![v389, v391] : Fin 2 → IVec S16 32) a x).toNat < S64x512.size a)
theorem k0_idx15_inb : ∀ (v389 : IVec S16 32) (v391 : IVec S16 32) (k0_hw15 : k0_chk15 v389 v391), ∀ a x, ((![v389, v391] : Fin 2 → IVec S16 32) a x).toNat < S64x512.size a := fun v389 v391 k0_hw15 => k0_hw15
def k0_off84 (k0_t2 : Fin k0_t2_loop.trips) : Fin 2 → Nat :=
  let c0_i32_83 : BitVec 32 := 0#32
  let c0_i32_41 : BitVec 32 := 0#32
  let c1_i32_43 : BitVec 32 := 1#32
  let arg18 : BitVec 32 := Scf.iv c0_i32_41 c1_i32_43 k0_t2
  let c1_i32_82 : BitVec 32 := 1#32
  let v110 : BitVec 32 := Scalar.muli arg18 c1_i32_82
  let v111 : BitVec 32 := Scalar.addi c0_i32_83 v110
  let v392 : Index := Scalar.indexCast v111
  let c240_176 : Index := 240#32
  ![v392.toNat, 240]

def k0_chk16 (v399 : IVec S16 32) (v401 : IVec S16 32) : Prop :=
  (∀ a x, ((![v399, v401] : Fin 2 → IVec S16 32) a x).toNat < S64x512.size a)
theorem k0_idx16_inb : ∀ (v399 : IVec S16 32) (v401 : IVec S16 32) (k0_hw16 : k0_chk16 v399 v401), ∀ a x, ((![v399, v401] : Fin 2 → IVec S16 32) a x).toNat < S64x512.size a := fun v399 v401 k0_hw16 => k0_hw16
def k0_off85 (i : grid0.Coords) (k0_t1 : Fin k0_t1_loop.trips) (c0_i32_29 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.shrsi v1 c4_i32
  let c15_i32 : BitVec 32 := 15#32
  let v3 : BitVec 32 := Scalar.andi v1 c15_i32
  let c6_i32 : BitVec 32 := 6#32
  let v4 : BitVec 32 := Scalar.muli v3 c6_i32
  let c0_i32_19 : BitVec 32 := 0#32
  let c1_i32 : BitVec 32 := 1#32
  let arg17 : BitVec 32 := Scf.iv c0_i32_19 c1_i32 k0_t1
  let c2_i32_28 : BitVec 32 := 2#32
  let v36 : BitVec 32 := Scalar.muli arg17 c2_i32_28
  let v37 : BitVec 32 := Scalar.addi v36 c0_i32_29
  let c3_i32_45 : BitVec 32 := 3#32
  let v60 : BitVec 32 := Scalar.shrsi v37 c3_i32_45
  let v62 : BitVec 32 := Scalar.addi v4 v60
  let c7_i32_46 : BitVec 32 := 7#32
  let v61 : BitVec 32 := Scalar.andi v37 c7_i32_46
  let c2_i32_47 : BitVec 32 := 2#32
  let v63 : BitVec 32 := Scalar.muli v61 c2_i32_47
  let c32_i32_48 : BitVec 32 := 32#32
  let v64 : BitVec 32 := Scalar.muli v63 c32_i32_48
  let c0_i32_49 : BitVec 32 := 0#32
  ![v2.toNat, v62.toNat, v64.toNat, 0]
def k0_cond2 (k0_t1 : Fin k0_t1_loop.trips) : BitVec 1 :=
  let c0_i32_19 : BitVec 32 := 0#32
  let c1_i32 : BitVec 32 := 1#32
  let arg17 : BitVec 32 := Scf.iv c0_i32_19 c1_i32 k0_t1
  let c2_i32_28 : BitVec 32 := 2#32
  let v36 : BitVec 32 := Scalar.muli arg17 c2_i32_28
  let c0_i32_29 : BitVec 32 := 0#32
  let v37 : BitVec 32 := Scalar.addi v36 c0_i32_29
  let c2_i32_51 : BitVec 32 := 2#32
  let v69 : BitVec 32 := Scalar.addi v37 c2_i32_51
  let c48_i32 : BitVec 32 := 48#32
  let v70 : BitVec 1 := Scalar.cmpi .slt v69 c48_i32
  let v71 : BitVec 32 := Scalar.extui v70
  let c0_i32_52 : BitVec 32 := 0#32
  let v72 : BitVec 1 := Scalar.cmpi .ne v71 c0_i32_52
  v72

def k0_off86 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.shrsi v1 c4_i32
  let c15_i32 : BitVec 32 := 15#32
  let v3 : BitVec 32 := Scalar.andi v1 c15_i32
  let c6_i32 : BitVec 32 := 6#32
  let v4 : BitVec 32 := Scalar.muli v3 c6_i32
  let c0_i32_19 : BitVec 32 := 0#32
  let c1_i32 : BitVec 32 := 1#32
  let arg17 : BitVec 32 := Scf.iv c0_i32_19 c1_i32 k0_t1
  let c2_i32_28 : BitVec 32 := 2#32
  let v36 : BitVec 32 := Scalar.muli arg17 c2_i32_28
  let c0_i32_29 : BitVec 32 := 0#32
  let v37 : BitVec 32 := Scalar.addi v36 c0_i32_29
  let c2_i32_82 : BitVec 32 := 2#32
  let v110 : BitVec 32 := Scalar.addi v37 c2_i32_82
  let c3_i32_83 : BitVec 32 := 3#32
  let v111 : BitVec 32 := Scalar.shrsi v110 c3_i32_83
  let v113 : BitVec 32 := Scalar.addi v4 v111
  let c7_i32_84 : BitVec 32 := 7#32
  let v112 : BitVec 32 := Scalar.andi v110 c7_i32_84
  let c32_i32_85 : BitVec 32 := 32#32
  let v114 : BitVec 32 := Scalar.muli v112 c32_i32_85
  let c0_i32_87 : BitVec 32 := 0#32
  ![v2.toNat, v113.toNat, v114.toNat, 0]
def k0_cond3 (k0_t1 : Fin k0_t1_loop.trips) : BitVec 1 :=
  let c0_i32_19 : BitVec 32 := 0#32
  let c1_i32 : BitVec 32 := 1#32
  let arg17 : BitVec 32 := Scf.iv c0_i32_19 c1_i32 k0_t1
  let c2_i32_53 : BitVec 32 := 2#32
  let v73 : BitVec 32 := Scalar.muli arg17 c2_i32_53
  let c1_i32_54 : BitVec 32 := 1#32
  let v74 : BitVec 32 := Scalar.addi v73 c1_i32_54
  let c2_i32_63 : BitVec 32 := 2#32
  let v89 : BitVec 1 := Scalar.cmpi .sge v74 c2_i32_63
  let v90 : BitVec 32 := Scalar.extui v89
  let c0_i32_64 : BitVec 32 := 0#32
  let v91 : BitVec 1 := Scalar.cmpi .ne v90 c0_i32_64
  v91

def k0_off87 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.shrsi v1 c4_i32
  let c15_i32 : BitVec 32 := 15#32
  let v3 : BitVec 32 := Scalar.andi v1 c15_i32
  let c6_i32 : BitVec 32 := 6#32
  let v4 : BitVec 32 := Scalar.muli v3 c6_i32
  let c0_i32_19 : BitVec 32 := 0#32
  let c1_i32 : BitVec 32 := 1#32
  let arg17 : BitVec 32 := Scf.iv c0_i32_19 c1_i32 k0_t1
  let c2_i32_53 : BitVec 32 := 2#32
  let v73 : BitVec 32 := Scalar.muli arg17 c2_i32_53
  let c1_i32_54 : BitVec 32 := 1#32
  let v74 : BitVec 32 := Scalar.addi v73 c1_i32_54
  let c2_i32_82 : BitVec 32 := 2#32
  let v110 : BitVec 32 := Scalar.subi v74 c2_i32_82
  let c3_i32_83 : BitVec 32 := 3#32
  let v111 : BitVec 32 := Scalar.shrsi v110 c3_i32_83
  let v113 : BitVec 32 := Scalar.addi v4 v111
  let c7_i32_84 : BitVec 32 := 7#32
  let v112 : BitVec 32 := Scalar.andi v110 c7_i32_84
  let c2_i32_85 : BitVec 32 := 2#32
  let v114 : BitVec 32 := Scalar.muli v112 c2_i32_85
  let c32_i32_86 : BitVec 32 := 32#32
  let v115 : BitVec 32 := Scalar.muli v114 c32_i32_86
  let c0_i32_87 : BitVec 32 := 0#32
  ![v2.toNat, v113.toNat, v115.toNat, 0]
@[reducible] def k0_t3_loop : Scf.Loop 32 :=
  let c0_i32_69 : BitVec 32 := 0#32
  let c32_i32_70 : BitVec 32 := 32#32
  let v96 : BitVec 32 := Scalar.addi c0_i32_69 c32_i32_70
  let c1_i32_71 : BitVec 32 := 1#32
  ⟨c0_i32_69, v96, c1_i32_71⟩
def k0_off88 (k0_t3 : Fin k0_t3_loop.trips) : Fin 2 → Nat :=
  let c2_i32_84 : BitVec 32 := 2#32
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v112 : BitVec 32 := Scalar.muli c2_i32_84 v111
  let v114 : Index := Scalar.indexCast v112
  let c0 : Index := 0#32
  ![v114.toNat, 0]
def k0_off89 (k0_t3 : Fin k0_t3_loop.trips) : Fin 2 → Nat :=
  let c2_i32_84 : BitVec 32 := 2#32
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v112 : BitVec 32 := Scalar.muli c2_i32_84 v111
  let c1_i32_85 : BitVec 32 := 1#32
  let v113 : BitVec 32 := Scalar.addi v112 c1_i32_85
  let v116 : Index := Scalar.indexCast v113
  let c0_86 : Index := 0#32
  ![v116.toNat, 0]
def k0_off90 (k0_t3 : Fin k0_t3_loop.trips) : Fin 2 → Nat :=
  let c2_i32_84 : BitVec 32 := 2#32
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v112 : BitVec 32 := Scalar.muli c2_i32_84 v111
  let v118 : Index := Scalar.indexCast v112
  let c16 : Index := 16#32
  ![v118.toNat, 16]
def k0_off91 (k0_t3 : Fin k0_t3_loop.trips) : Fin 2 → Nat :=
  let c2_i32_84 : BitVec 32 := 2#32
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v112 : BitVec 32 := Scalar.muli c2_i32_84 v111
  let c1_i32_85 : BitVec 32 := 1#32
  let v113 : BitVec 32 := Scalar.addi v112 c1_i32_85
  let v120 : Index := Scalar.indexCast v113
  let c16_87 : Index := 16#32
  ![v120.toNat, 16]
def k0_off92 (k0_t3 : Fin k0_t3_loop.trips) : Fin 2 → Nat :=
  let c2_i32_84 : BitVec 32 := 2#32
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v112 : BitVec 32 := Scalar.muli c2_i32_84 v111
  let v122 : Index := Scalar.indexCast v112
  let c32 : Index := 32#32
  ![v122.toNat, 32]
def k0_off93 (k0_t3 : Fin k0_t3_loop.trips) : Fin 2 → Nat :=
  let c2_i32_84 : BitVec 32 := 2#32
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v112 : BitVec 32 := Scalar.muli c2_i32_84 v111
  let c1_i32_85 : BitVec 32 := 1#32
  let v113 : BitVec 32 := Scalar.addi v112 c1_i32_85
  let v124 : Index := Scalar.indexCast v113
  let c32_88 : Index := 32#32
  ![v124.toNat, 32]
def k0_off94 (k0_t3 : Fin k0_t3_loop.trips) : Fin 2 → Nat :=
  let c2_i32_84 : BitVec 32 := 2#32
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v112 : BitVec 32 := Scalar.muli c2_i32_84 v111
  let v126 : Index := Scalar.indexCast v112
  let c48 : Index := 48#32
  ![v126.toNat, 48]
def k0_off95 (k0_t3 : Fin k0_t3_loop.trips) : Fin 2 → Nat :=
  let c2_i32_84 : BitVec 32 := 2#32
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v112 : BitVec 32 := Scalar.muli c2_i32_84 v111
  let c1_i32_85 : BitVec 32 := 1#32
  let v113 : BitVec 32 := Scalar.addi v112 c1_i32_85
  let v128 : Index := Scalar.indexCast v113
  let c48_89 : Index := 48#32
  ![v128.toNat, 48]
def k0_off96 (k0_t3 : Fin k0_t3_loop.trips) : Fin 2 → Nat :=
  let c2_i32_84 : BitVec 32 := 2#32
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v112 : BitVec 32 := Scalar.muli c2_i32_84 v111
  let v130 : Index := Scalar.indexCast v112
  let c64 : Index := 64#32
  ![v130.toNat, 64]
def k0_off97 (k0_t3 : Fin k0_t3_loop.trips) : Fin 2 → Nat :=
  let c2_i32_84 : BitVec 32 := 2#32
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v112 : BitVec 32 := Scalar.muli c2_i32_84 v111
  let c1_i32_85 : BitVec 32 := 1#32
  let v113 : BitVec 32 := Scalar.addi v112 c1_i32_85
  let v132 : Index := Scalar.indexCast v113
  let c64_90 : Index := 64#32
  ![v132.toNat, 64]
def k0_off98 (k0_t3 : Fin k0_t3_loop.trips) : Fin 2 → Nat :=
  let c2_i32_84 : BitVec 32 := 2#32
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v112 : BitVec 32 := Scalar.muli c2_i32_84 v111
  let v134 : Index := Scalar.indexCast v112
  let c80 : Index := 80#32
  ![v134.toNat, 80]
def k0_off99 (k0_t3 : Fin k0_t3_loop.trips) : Fin 2 → Nat :=
  let c2_i32_84 : BitVec 32 := 2#32
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v112 : BitVec 32 := Scalar.muli c2_i32_84 v111
  let c1_i32_85 : BitVec 32 := 1#32
  let v113 : BitVec 32 := Scalar.addi v112 c1_i32_85
  let v136 : Index := Scalar.indexCast v113
  let c80_91 : Index := 80#32
  ![v136.toNat, 80]
def k0_off100 (k0_t3 : Fin k0_t3_loop.trips) : Fin 2 → Nat :=
  let c2_i32_84 : BitVec 32 := 2#32
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v112 : BitVec 32 := Scalar.muli c2_i32_84 v111
  let v138 : Index := Scalar.indexCast v112
  let c96 : Index := 96#32
  ![v138.toNat, 96]
def k0_off101 (k0_t3 : Fin k0_t3_loop.trips) : Fin 2 → Nat :=
  let c2_i32_84 : BitVec 32 := 2#32
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v112 : BitVec 32 := Scalar.muli c2_i32_84 v111
  let c1_i32_85 : BitVec 32 := 1#32
  let v113 : BitVec 32 := Scalar.addi v112 c1_i32_85
  let v140 : Index := Scalar.indexCast v113
  let c96_92 : Index := 96#32
  ![v140.toNat, 96]
def k0_off102 (k0_t3 : Fin k0_t3_loop.trips) : Fin 2 → Nat :=
  let c2_i32_84 : BitVec 32 := 2#32
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v112 : BitVec 32 := Scalar.muli c2_i32_84 v111
  let v142 : Index := Scalar.indexCast v112
  let c112 : Index := 112#32
  ![v142.toNat, 112]
def k0_off103 (k0_t3 : Fin k0_t3_loop.trips) : Fin 2 → Nat :=
  let c2_i32_84 : BitVec 32 := 2#32
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v112 : BitVec 32 := Scalar.muli c2_i32_84 v111
  let c1_i32_85 : BitVec 32 := 1#32
  let v113 : BitVec 32 := Scalar.addi v112 c1_i32_85
  let v144 : Index := Scalar.indexCast v113
  let c112_93 : Index := 112#32
  ![v144.toNat, 112]
def k0_off104 (k0_t3 : Fin k0_t3_loop.trips) : Fin 2 → Nat :=
  let c2_i32_84 : BitVec 32 := 2#32
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v112 : BitVec 32 := Scalar.muli c2_i32_84 v111
  let v146 : Index := Scalar.indexCast v112
  let c128 : Index := 128#32
  ![v146.toNat, 128]
def k0_off105 (k0_t3 : Fin k0_t3_loop.trips) : Fin 2 → Nat :=
  let c2_i32_84 : BitVec 32 := 2#32
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v112 : BitVec 32 := Scalar.muli c2_i32_84 v111
  let c1_i32_85 : BitVec 32 := 1#32
  let v113 : BitVec 32 := Scalar.addi v112 c1_i32_85
  let v148 : Index := Scalar.indexCast v113
  let c128_94 : Index := 128#32
  ![v148.toNat, 128]
def k0_off106 (k0_t3 : Fin k0_t3_loop.trips) : Fin 2 → Nat :=
  let c2_i32_84 : BitVec 32 := 2#32
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v112 : BitVec 32 := Scalar.muli c2_i32_84 v111
  let v150 : Index := Scalar.indexCast v112
  let c144 : Index := 144#32
  ![v150.toNat, 144]
def k0_off107 (k0_t3 : Fin k0_t3_loop.trips) : Fin 2 → Nat :=
  let c2_i32_84 : BitVec 32 := 2#32
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v112 : BitVec 32 := Scalar.muli c2_i32_84 v111
  let c1_i32_85 : BitVec 32 := 1#32
  let v113 : BitVec 32 := Scalar.addi v112 c1_i32_85
  let v152 : Index := Scalar.indexCast v113
  let c144_95 : Index := 144#32
  ![v152.toNat, 144]
def k0_off108 (k0_t3 : Fin k0_t3_loop.trips) : Fin 2 → Nat :=
  let c2_i32_84 : BitVec 32 := 2#32
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v112 : BitVec 32 := Scalar.muli c2_i32_84 v111
  let v154 : Index := Scalar.indexCast v112
  let c160 : Index := 160#32
  ![v154.toNat, 160]
def k0_off109 (k0_t3 : Fin k0_t3_loop.trips) : Fin 2 → Nat :=
  let c2_i32_84 : BitVec 32 := 2#32
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v112 : BitVec 32 := Scalar.muli c2_i32_84 v111
  let c1_i32_85 : BitVec 32 := 1#32
  let v113 : BitVec 32 := Scalar.addi v112 c1_i32_85
  let v156 : Index := Scalar.indexCast v113
  let c160_96 : Index := 160#32
  ![v156.toNat, 160]
def k0_off110 (k0_t3 : Fin k0_t3_loop.trips) : Fin 2 → Nat :=
  let c2_i32_84 : BitVec 32 := 2#32
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v112 : BitVec 32 := Scalar.muli c2_i32_84 v111
  let v158 : Index := Scalar.indexCast v112
  let c176 : Index := 176#32
  ![v158.toNat, 176]
def k0_off111 (k0_t3 : Fin k0_t3_loop.trips) : Fin 2 → Nat :=
  let c2_i32_84 : BitVec 32 := 2#32
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v112 : BitVec 32 := Scalar.muli c2_i32_84 v111
  let c1_i32_85 : BitVec 32 := 1#32
  let v113 : BitVec 32 := Scalar.addi v112 c1_i32_85
  let v160 : Index := Scalar.indexCast v113
  let c176_97 : Index := 176#32
  ![v160.toNat, 176]
def k0_off112 (k0_t3 : Fin k0_t3_loop.trips) : Fin 2 → Nat :=
  let c2_i32_84 : BitVec 32 := 2#32
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v112 : BitVec 32 := Scalar.muli c2_i32_84 v111
  let v162 : Index := Scalar.indexCast v112
  let c192 : Index := 192#32
  ![v162.toNat, 192]
def k0_off113 (k0_t3 : Fin k0_t3_loop.trips) : Fin 2 → Nat :=
  let c2_i32_84 : BitVec 32 := 2#32
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v112 : BitVec 32 := Scalar.muli c2_i32_84 v111
  let c1_i32_85 : BitVec 32 := 1#32
  let v113 : BitVec 32 := Scalar.addi v112 c1_i32_85
  let v164 : Index := Scalar.indexCast v113
  let c192_98 : Index := 192#32
  ![v164.toNat, 192]
def k0_off114 (k0_t3 : Fin k0_t3_loop.trips) : Fin 2 → Nat :=
  let c2_i32_84 : BitVec 32 := 2#32
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v112 : BitVec 32 := Scalar.muli c2_i32_84 v111
  let v166 : Index := Scalar.indexCast v112
  let c208 : Index := 208#32
  ![v166.toNat, 208]
def k0_off115 (k0_t3 : Fin k0_t3_loop.trips) : Fin 2 → Nat :=
  let c2_i32_84 : BitVec 32 := 2#32
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v112 : BitVec 32 := Scalar.muli c2_i32_84 v111
  let c1_i32_85 : BitVec 32 := 1#32
  let v113 : BitVec 32 := Scalar.addi v112 c1_i32_85
  let v168 : Index := Scalar.indexCast v113
  let c208_99 : Index := 208#32
  ![v168.toNat, 208]
def k0_off116 (k0_t3 : Fin k0_t3_loop.trips) : Fin 2 → Nat :=
  let c2_i32_84 : BitVec 32 := 2#32
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v112 : BitVec 32 := Scalar.muli c2_i32_84 v111
  let v170 : Index := Scalar.indexCast v112
  let c224 : Index := 224#32
  ![v170.toNat, 224]
def k0_off117 (k0_t3 : Fin k0_t3_loop.trips) : Fin 2 → Nat :=
  let c2_i32_84 : BitVec 32 := 2#32
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v112 : BitVec 32 := Scalar.muli c2_i32_84 v111
  let c1_i32_85 : BitVec 32 := 1#32
  let v113 : BitVec 32 := Scalar.addi v112 c1_i32_85
  let v172 : Index := Scalar.indexCast v113
  let c224_100 : Index := 224#32
  ![v172.toNat, 224]
def k0_off118 (k0_t3 : Fin k0_t3_loop.trips) : Fin 2 → Nat :=
  let c2_i32_84 : BitVec 32 := 2#32
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v112 : BitVec 32 := Scalar.muli c2_i32_84 v111
  let v174 : Index := Scalar.indexCast v112
  let c240 : Index := 240#32
  ![v174.toNat, 240]
def k0_off119 (k0_t3 : Fin k0_t3_loop.trips) : Fin 2 → Nat :=
  let c2_i32_84 : BitVec 32 := 2#32
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v112 : BitVec 32 := Scalar.muli c2_i32_84 v111
  let c1_i32_85 : BitVec 32 := 1#32
  let v113 : BitVec 32 := Scalar.addi v112 c1_i32_85
  let v176 : Index := Scalar.indexCast v113
  let c240_101 : Index := 240#32
  ![v176.toNat, 240]
def k0_off120 (k0_t3 : Fin k0_t3_loop.trips) : Fin 2 → Nat :=
  let c2_i32_84 : BitVec 32 := 2#32
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v112 : BitVec 32 := Scalar.muli c2_i32_84 v111
  let v178 : Index := Scalar.indexCast v112
  let c256 : Index := 256#32
  ![v178.toNat, 256]
def k0_off121 (k0_t3 : Fin k0_t3_loop.trips) : Fin 2 → Nat :=
  let c2_i32_84 : BitVec 32 := 2#32
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v112 : BitVec 32 := Scalar.muli c2_i32_84 v111
  let c1_i32_85 : BitVec 32 := 1#32
  let v113 : BitVec 32 := Scalar.addi v112 c1_i32_85
  let v180 : Index := Scalar.indexCast v113
  let c256_102 : Index := 256#32
  ![v180.toNat, 256]
def k0_off122 (k0_t3 : Fin k0_t3_loop.trips) : Fin 2 → Nat :=
  let c2_i32_84 : BitVec 32 := 2#32
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v112 : BitVec 32 := Scalar.muli c2_i32_84 v111
  let v182 : Index := Scalar.indexCast v112
  let c272 : Index := 272#32
  ![v182.toNat, 272]
def k0_off123 (k0_t3 : Fin k0_t3_loop.trips) : Fin 2 → Nat :=
  let c2_i32_84 : BitVec 32 := 2#32
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v112 : BitVec 32 := Scalar.muli c2_i32_84 v111
  let c1_i32_85 : BitVec 32 := 1#32
  let v113 : BitVec 32 := Scalar.addi v112 c1_i32_85
  let v184 : Index := Scalar.indexCast v113
  let c272_103 : Index := 272#32
  ![v184.toNat, 272]
def k0_off124 (k0_t3 : Fin k0_t3_loop.trips) : Fin 2 → Nat :=
  let c2_i32_84 : BitVec 32 := 2#32
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v112 : BitVec 32 := Scalar.muli c2_i32_84 v111
  let v186 : Index := Scalar.indexCast v112
  let c288 : Index := 288#32
  ![v186.toNat, 288]
def k0_off125 (k0_t3 : Fin k0_t3_loop.trips) : Fin 2 → Nat :=
  let c2_i32_84 : BitVec 32 := 2#32
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v112 : BitVec 32 := Scalar.muli c2_i32_84 v111
  let c1_i32_85 : BitVec 32 := 1#32
  let v113 : BitVec 32 := Scalar.addi v112 c1_i32_85
  let v188 : Index := Scalar.indexCast v113
  let c288_104 : Index := 288#32
  ![v188.toNat, 288]
def k0_off126 (k0_t3 : Fin k0_t3_loop.trips) : Fin 2 → Nat :=
  let c2_i32_84 : BitVec 32 := 2#32
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v112 : BitVec 32 := Scalar.muli c2_i32_84 v111
  let v190 : Index := Scalar.indexCast v112
  let c304 : Index := 304#32
  ![v190.toNat, 304]
def k0_off127 (k0_t3 : Fin k0_t3_loop.trips) : Fin 2 → Nat :=
  let c2_i32_84 : BitVec 32 := 2#32
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v112 : BitVec 32 := Scalar.muli c2_i32_84 v111
  let c1_i32_85 : BitVec 32 := 1#32
  let v113 : BitVec 32 := Scalar.addi v112 c1_i32_85
  let v192 : Index := Scalar.indexCast v113
  let c304_105 : Index := 304#32
  ![v192.toNat, 304]
def k0_off128 (k0_t3 : Fin k0_t3_loop.trips) : Fin 2 → Nat :=
  let c2_i32_84 : BitVec 32 := 2#32
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v112 : BitVec 32 := Scalar.muli c2_i32_84 v111
  let v194 : Index := Scalar.indexCast v112
  let c320 : Index := 320#32
  ![v194.toNat, 320]
def k0_off129 (k0_t3 : Fin k0_t3_loop.trips) : Fin 2 → Nat :=
  let c2_i32_84 : BitVec 32 := 2#32
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v112 : BitVec 32 := Scalar.muli c2_i32_84 v111
  let c1_i32_85 : BitVec 32 := 1#32
  let v113 : BitVec 32 := Scalar.addi v112 c1_i32_85
  let v196 : Index := Scalar.indexCast v113
  let c320_106 : Index := 320#32
  ![v196.toNat, 320]
def k0_off130 (k0_t3 : Fin k0_t3_loop.trips) : Fin 2 → Nat :=
  let c2_i32_84 : BitVec 32 := 2#32
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v112 : BitVec 32 := Scalar.muli c2_i32_84 v111
  let v198 : Index := Scalar.indexCast v112
  let c336 : Index := 336#32
  ![v198.toNat, 336]
def k0_off131 (k0_t3 : Fin k0_t3_loop.trips) : Fin 2 → Nat :=
  let c2_i32_84 : BitVec 32 := 2#32
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v112 : BitVec 32 := Scalar.muli c2_i32_84 v111
  let c1_i32_85 : BitVec 32 := 1#32
  let v113 : BitVec 32 := Scalar.addi v112 c1_i32_85
  let v200 : Index := Scalar.indexCast v113
  let c336_107 : Index := 336#32
  ![v200.toNat, 336]
def k0_off132 (k0_t3 : Fin k0_t3_loop.trips) : Fin 2 → Nat :=
  let c2_i32_84 : BitVec 32 := 2#32
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v112 : BitVec 32 := Scalar.muli c2_i32_84 v111
  let v202 : Index := Scalar.indexCast v112
  let c352 : Index := 352#32
  ![v202.toNat, 352]
def k0_off133 (k0_t3 : Fin k0_t3_loop.trips) : Fin 2 → Nat :=
  let c2_i32_84 : BitVec 32 := 2#32
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v112 : BitVec 32 := Scalar.muli c2_i32_84 v111
  let c1_i32_85 : BitVec 32 := 1#32
  let v113 : BitVec 32 := Scalar.addi v112 c1_i32_85
  let v204 : Index := Scalar.indexCast v113
  let c352_108 : Index := 352#32
  ![v204.toNat, 352]
def k0_off134 (k0_t3 : Fin k0_t3_loop.trips) : Fin 2 → Nat :=
  let c2_i32_84 : BitVec 32 := 2#32
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v112 : BitVec 32 := Scalar.muli c2_i32_84 v111
  let v206 : Index := Scalar.indexCast v112
  let c368 : Index := 368#32
  ![v206.toNat, 368]
def k0_off135 (k0_t3 : Fin k0_t3_loop.trips) : Fin 2 → Nat :=
  let c2_i32_84 : BitVec 32 := 2#32
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v112 : BitVec 32 := Scalar.muli c2_i32_84 v111
  let c1_i32_85 : BitVec 32 := 1#32
  let v113 : BitVec 32 := Scalar.addi v112 c1_i32_85
  let v208 : Index := Scalar.indexCast v113
  let c368_109 : Index := 368#32
  ![v208.toNat, 368]
def k0_off136 (k0_t3 : Fin k0_t3_loop.trips) : Fin 2 → Nat :=
  let c2_i32_84 : BitVec 32 := 2#32
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v112 : BitVec 32 := Scalar.muli c2_i32_84 v111
  let v210 : Index := Scalar.indexCast v112
  let c384 : Index := 384#32
  ![v210.toNat, 384]
def k0_off137 (k0_t3 : Fin k0_t3_loop.trips) : Fin 2 → Nat :=
  let c2_i32_84 : BitVec 32 := 2#32
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v112 : BitVec 32 := Scalar.muli c2_i32_84 v111
  let c1_i32_85 : BitVec 32 := 1#32
  let v113 : BitVec 32 := Scalar.addi v112 c1_i32_85
  let v212 : Index := Scalar.indexCast v113
  let c384_110 : Index := 384#32
  ![v212.toNat, 384]
def k0_off138 (k0_t3 : Fin k0_t3_loop.trips) : Fin 2 → Nat :=
  let c2_i32_84 : BitVec 32 := 2#32
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v112 : BitVec 32 := Scalar.muli c2_i32_84 v111
  let v214 : Index := Scalar.indexCast v112
  let c400 : Index := 400#32
  ![v214.toNat, 400]
def k0_off139 (k0_t3 : Fin k0_t3_loop.trips) : Fin 2 → Nat :=
  let c2_i32_84 : BitVec 32 := 2#32
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v112 : BitVec 32 := Scalar.muli c2_i32_84 v111
  let c1_i32_85 : BitVec 32 := 1#32
  let v113 : BitVec 32 := Scalar.addi v112 c1_i32_85
  let v216 : Index := Scalar.indexCast v113
  let c400_111 : Index := 400#32
  ![v216.toNat, 400]
def k0_off140 (k0_t3 : Fin k0_t3_loop.trips) : Fin 2 → Nat :=
  let c2_i32_84 : BitVec 32 := 2#32
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v112 : BitVec 32 := Scalar.muli c2_i32_84 v111
  let v218 : Index := Scalar.indexCast v112
  let c416 : Index := 416#32
  ![v218.toNat, 416]
def k0_off141 (k0_t3 : Fin k0_t3_loop.trips) : Fin 2 → Nat :=
  let c2_i32_84 : BitVec 32 := 2#32
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v112 : BitVec 32 := Scalar.muli c2_i32_84 v111
  let c1_i32_85 : BitVec 32 := 1#32
  let v113 : BitVec 32 := Scalar.addi v112 c1_i32_85
  let v220 : Index := Scalar.indexCast v113
  let c416_112 : Index := 416#32
  ![v220.toNat, 416]
def k0_off142 (k0_t3 : Fin k0_t3_loop.trips) : Fin 2 → Nat :=
  let c2_i32_84 : BitVec 32 := 2#32
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v112 : BitVec 32 := Scalar.muli c2_i32_84 v111
  let v222 : Index := Scalar.indexCast v112
  let c432 : Index := 432#32
  ![v222.toNat, 432]
def k0_off143 (k0_t3 : Fin k0_t3_loop.trips) : Fin 2 → Nat :=
  let c2_i32_84 : BitVec 32 := 2#32
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v112 : BitVec 32 := Scalar.muli c2_i32_84 v111
  let c1_i32_85 : BitVec 32 := 1#32
  let v113 : BitVec 32 := Scalar.addi v112 c1_i32_85
  let v224 : Index := Scalar.indexCast v113
  let c432_113 : Index := 432#32
  ![v224.toNat, 432]
def k0_off144 (k0_t3 : Fin k0_t3_loop.trips) : Fin 2 → Nat :=
  let c2_i32_84 : BitVec 32 := 2#32
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v112 : BitVec 32 := Scalar.muli c2_i32_84 v111
  let v226 : Index := Scalar.indexCast v112
  let c448 : Index := 448#32
  ![v226.toNat, 448]
def k0_off145 (k0_t3 : Fin k0_t3_loop.trips) : Fin 2 → Nat :=
  let c2_i32_84 : BitVec 32 := 2#32
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v112 : BitVec 32 := Scalar.muli c2_i32_84 v111
  let c1_i32_85 : BitVec 32 := 1#32
  let v113 : BitVec 32 := Scalar.addi v112 c1_i32_85
  let v228 : Index := Scalar.indexCast v113
  let c448_114 : Index := 448#32
  ![v228.toNat, 448]
def k0_off146 (k0_t3 : Fin k0_t3_loop.trips) : Fin 2 → Nat :=
  let c2_i32_84 : BitVec 32 := 2#32
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v112 : BitVec 32 := Scalar.muli c2_i32_84 v111
  let v230 : Index := Scalar.indexCast v112
  let c464 : Index := 464#32
  ![v230.toNat, 464]
def k0_off147 (k0_t3 : Fin k0_t3_loop.trips) : Fin 2 → Nat :=
  let c2_i32_84 : BitVec 32 := 2#32
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v112 : BitVec 32 := Scalar.muli c2_i32_84 v111
  let c1_i32_85 : BitVec 32 := 1#32
  let v113 : BitVec 32 := Scalar.addi v112 c1_i32_85
  let v232 : Index := Scalar.indexCast v113
  let c464_115 : Index := 464#32
  ![v232.toNat, 464]
def k0_off148 (k0_t3 : Fin k0_t3_loop.trips) : Fin 2 → Nat :=
  let c2_i32_84 : BitVec 32 := 2#32
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v112 : BitVec 32 := Scalar.muli c2_i32_84 v111
  let v234 : Index := Scalar.indexCast v112
  let c480 : Index := 480#32
  ![v234.toNat, 480]
def k0_off149 (k0_t3 : Fin k0_t3_loop.trips) : Fin 2 → Nat :=
  let c2_i32_84 : BitVec 32 := 2#32
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v112 : BitVec 32 := Scalar.muli c2_i32_84 v111
  let c1_i32_85 : BitVec 32 := 1#32
  let v113 : BitVec 32 := Scalar.addi v112 c1_i32_85
  let v236 : Index := Scalar.indexCast v113
  let c480_116 : Index := 480#32
  ![v236.toNat, 480]
def k0_off150 (k0_t3 : Fin k0_t3_loop.trips) : Fin 2 → Nat :=
  let c2_i32_84 : BitVec 32 := 2#32
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v112 : BitVec 32 := Scalar.muli c2_i32_84 v111
  let v238 : Index := Scalar.indexCast v112
  let c496 : Index := 496#32
  ![v238.toNat, 496]
def k0_off151 (k0_t3 : Fin k0_t3_loop.trips) : Fin 2 → Nat :=
  let c2_i32_84 : BitVec 32 := 2#32
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v112 : BitVec 32 := Scalar.muli c2_i32_84 v111
  let c1_i32_85 : BitVec 32 := 1#32
  let v113 : BitVec 32 := Scalar.addi v112 c1_i32_85
  let v240 : Index := Scalar.indexCast v113
  let c496_117 : Index := 496#32
  ![v240.toNat, 496]
def k0_off152 (k0_t3 : Fin k0_t3_loop.trips) : Fin 2 → Nat :=
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v242 : Index := Scalar.indexCast v111
  let c0_118 : Index := 0#32
  ![v242.toNat, 0]

def k0_chk17 (v249 : IVec S16 32) (v251 : IVec S16 32) : Prop :=
  (∀ a x, ((![v249, v251] : Fin 2 → IVec S16 32) a x).toNat < S64x512.size a)
theorem k0_idx17_inb : ∀ (v249 : IVec S16 32) (v251 : IVec S16 32) (k0_hw17 : k0_chk17 v249 v251), ∀ a x, ((![v249, v251] : Fin 2 → IVec S16 32) a x).toNat < S64x512.size a := fun v249 v251 k0_hw17 => k0_hw17
def k0_off153 (k0_t3 : Fin k0_t3_loop.trips) : Fin 2 → Nat :=
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v252 : Index := Scalar.indexCast v111
  let c16_120 : Index := 16#32
  ![v252.toNat, 16]

def k0_chk18 (v259 : IVec S16 32) (v261 : IVec S16 32) : Prop :=
  (∀ a x, ((![v259, v261] : Fin 2 → IVec S16 32) a x).toNat < S64x512.size a)
theorem k0_idx18_inb : ∀ (v259 : IVec S16 32) (v261 : IVec S16 32) (k0_hw18 : k0_chk18 v259 v261), ∀ a x, ((![v259, v261] : Fin 2 → IVec S16 32) a x).toNat < S64x512.size a := fun v259 v261 k0_hw18 => k0_hw18
def k0_off154 (k0_t3 : Fin k0_t3_loop.trips) : Fin 2 → Nat :=
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v262 : Index := Scalar.indexCast v111
  let c32_124 : Index := 32#32
  ![v262.toNat, 32]

def k0_chk19 (v269 : IVec S16 32) (v271 : IVec S16 32) : Prop :=
  (∀ a x, ((![v269, v271] : Fin 2 → IVec S16 32) a x).toNat < S64x512.size a)
theorem k0_idx19_inb : ∀ (v269 : IVec S16 32) (v271 : IVec S16 32) (k0_hw19 : k0_chk19 v269 v271), ∀ a x, ((![v269, v271] : Fin 2 → IVec S16 32) a x).toNat < S64x512.size a := fun v269 v271 k0_hw19 => k0_hw19
def k0_off155 (k0_t3 : Fin k0_t3_loop.trips) : Fin 2 → Nat :=
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v272 : Index := Scalar.indexCast v111
  let c48_128 : Index := 48#32
  ![v272.toNat, 48]

def k0_chk20 (v279 : IVec S16 32) (v281 : IVec S16 32) : Prop :=
  (∀ a x, ((![v279, v281] : Fin 2 → IVec S16 32) a x).toNat < S64x512.size a)
theorem k0_idx20_inb : ∀ (v279 : IVec S16 32) (v281 : IVec S16 32) (k0_hw20 : k0_chk20 v279 v281), ∀ a x, ((![v279, v281] : Fin 2 → IVec S16 32) a x).toNat < S64x512.size a := fun v279 v281 k0_hw20 => k0_hw20
def k0_off156 (k0_t3 : Fin k0_t3_loop.trips) : Fin 2 → Nat :=
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v282 : Index := Scalar.indexCast v111
  let c64_132 : Index := 64#32
  ![v282.toNat, 64]

def k0_chk21 (v289 : IVec S16 32) (v291 : IVec S16 32) : Prop :=
  (∀ a x, ((![v289, v291] : Fin 2 → IVec S16 32) a x).toNat < S64x512.size a)
theorem k0_idx21_inb : ∀ (v289 : IVec S16 32) (v291 : IVec S16 32) (k0_hw21 : k0_chk21 v289 v291), ∀ a x, ((![v289, v291] : Fin 2 → IVec S16 32) a x).toNat < S64x512.size a := fun v289 v291 k0_hw21 => k0_hw21
def k0_off157 (k0_t3 : Fin k0_t3_loop.trips) : Fin 2 → Nat :=
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v292 : Index := Scalar.indexCast v111
  let c80_136 : Index := 80#32
  ![v292.toNat, 80]

def k0_chk22 (v299 : IVec S16 32) (v301 : IVec S16 32) : Prop :=
  (∀ a x, ((![v299, v301] : Fin 2 → IVec S16 32) a x).toNat < S64x512.size a)
theorem k0_idx22_inb : ∀ (v299 : IVec S16 32) (v301 : IVec S16 32) (k0_hw22 : k0_chk22 v299 v301), ∀ a x, ((![v299, v301] : Fin 2 → IVec S16 32) a x).toNat < S64x512.size a := fun v299 v301 k0_hw22 => k0_hw22
def k0_off158 (k0_t3 : Fin k0_t3_loop.trips) : Fin 2 → Nat :=
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v302 : Index := Scalar.indexCast v111
  let c96_140 : Index := 96#32
  ![v302.toNat, 96]

def k0_chk23 (v309 : IVec S16 32) (v311 : IVec S16 32) : Prop :=
  (∀ a x, ((![v309, v311] : Fin 2 → IVec S16 32) a x).toNat < S64x512.size a)
theorem k0_idx23_inb : ∀ (v309 : IVec S16 32) (v311 : IVec S16 32) (k0_hw23 : k0_chk23 v309 v311), ∀ a x, ((![v309, v311] : Fin 2 → IVec S16 32) a x).toNat < S64x512.size a := fun v309 v311 k0_hw23 => k0_hw23
def k0_off159 (k0_t3 : Fin k0_t3_loop.trips) : Fin 2 → Nat :=
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v312 : Index := Scalar.indexCast v111
  let c112_144 : Index := 112#32
  ![v312.toNat, 112]

def k0_chk24 (v319 : IVec S16 32) (v321 : IVec S16 32) : Prop :=
  (∀ a x, ((![v319, v321] : Fin 2 → IVec S16 32) a x).toNat < S64x512.size a)
theorem k0_idx24_inb : ∀ (v319 : IVec S16 32) (v321 : IVec S16 32) (k0_hw24 : k0_chk24 v319 v321), ∀ a x, ((![v319, v321] : Fin 2 → IVec S16 32) a x).toNat < S64x512.size a := fun v319 v321 k0_hw24 => k0_hw24
def k0_off160 (k0_t3 : Fin k0_t3_loop.trips) : Fin 2 → Nat :=
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v322 : Index := Scalar.indexCast v111
  let c128_148 : Index := 128#32
  ![v322.toNat, 128]

def k0_chk25 (v329 : IVec S16 32) (v331 : IVec S16 32) : Prop :=
  (∀ a x, ((![v329, v331] : Fin 2 → IVec S16 32) a x).toNat < S64x512.size a)
theorem k0_idx25_inb : ∀ (v329 : IVec S16 32) (v331 : IVec S16 32) (k0_hw25 : k0_chk25 v329 v331), ∀ a x, ((![v329, v331] : Fin 2 → IVec S16 32) a x).toNat < S64x512.size a := fun v329 v331 k0_hw25 => k0_hw25
def k0_off161 (k0_t3 : Fin k0_t3_loop.trips) : Fin 2 → Nat :=
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v332 : Index := Scalar.indexCast v111
  let c144_152 : Index := 144#32
  ![v332.toNat, 144]

def k0_chk26 (v339 : IVec S16 32) (v341 : IVec S16 32) : Prop :=
  (∀ a x, ((![v339, v341] : Fin 2 → IVec S16 32) a x).toNat < S64x512.size a)
theorem k0_idx26_inb : ∀ (v339 : IVec S16 32) (v341 : IVec S16 32) (k0_hw26 : k0_chk26 v339 v341), ∀ a x, ((![v339, v341] : Fin 2 → IVec S16 32) a x).toNat < S64x512.size a := fun v339 v341 k0_hw26 => k0_hw26
def k0_off162 (k0_t3 : Fin k0_t3_loop.trips) : Fin 2 → Nat :=
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v342 : Index := Scalar.indexCast v111
  let c160_156 : Index := 160#32
  ![v342.toNat, 160]

def k0_chk27 (v349 : IVec S16 32) (v351 : IVec S16 32) : Prop :=
  (∀ a x, ((![v349, v351] : Fin 2 → IVec S16 32) a x).toNat < S64x512.size a)
theorem k0_idx27_inb : ∀ (v349 : IVec S16 32) (v351 : IVec S16 32) (k0_hw27 : k0_chk27 v349 v351), ∀ a x, ((![v349, v351] : Fin 2 → IVec S16 32) a x).toNat < S64x512.size a := fun v349 v351 k0_hw27 => k0_hw27
def k0_off163 (k0_t3 : Fin k0_t3_loop.trips) : Fin 2 → Nat :=
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v352 : Index := Scalar.indexCast v111
  let c176_160 : Index := 176#32
  ![v352.toNat, 176]

def k0_chk28 (v359 : IVec S16 32) (v361 : IVec S16 32) : Prop :=
  (∀ a x, ((![v359, v361] : Fin 2 → IVec S16 32) a x).toNat < S64x512.size a)
theorem k0_idx28_inb : ∀ (v359 : IVec S16 32) (v361 : IVec S16 32) (k0_hw28 : k0_chk28 v359 v361), ∀ a x, ((![v359, v361] : Fin 2 → IVec S16 32) a x).toNat < S64x512.size a := fun v359 v361 k0_hw28 => k0_hw28
def k0_off164 (k0_t3 : Fin k0_t3_loop.trips) : Fin 2 → Nat :=
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v362 : Index := Scalar.indexCast v111
  let c192_164 : Index := 192#32
  ![v362.toNat, 192]

def k0_chk29 (v369 : IVec S16 32) (v371 : IVec S16 32) : Prop :=
  (∀ a x, ((![v369, v371] : Fin 2 → IVec S16 32) a x).toNat < S64x512.size a)
theorem k0_idx29_inb : ∀ (v369 : IVec S16 32) (v371 : IVec S16 32) (k0_hw29 : k0_chk29 v369 v371), ∀ a x, ((![v369, v371] : Fin 2 → IVec S16 32) a x).toNat < S64x512.size a := fun v369 v371 k0_hw29 => k0_hw29
def k0_off165 (k0_t3 : Fin k0_t3_loop.trips) : Fin 2 → Nat :=
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v372 : Index := Scalar.indexCast v111
  let c208_168 : Index := 208#32
  ![v372.toNat, 208]

def k0_chk30 (v379 : IVec S16 32) (v381 : IVec S16 32) : Prop :=
  (∀ a x, ((![v379, v381] : Fin 2 → IVec S16 32) a x).toNat < S64x512.size a)
theorem k0_idx30_inb : ∀ (v379 : IVec S16 32) (v381 : IVec S16 32) (k0_hw30 : k0_chk30 v379 v381), ∀ a x, ((![v379, v381] : Fin 2 → IVec S16 32) a x).toNat < S64x512.size a := fun v379 v381 k0_hw30 => k0_hw30
def k0_off166 (k0_t3 : Fin k0_t3_loop.trips) : Fin 2 → Nat :=
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v382 : Index := Scalar.indexCast v111
  let c224_172 : Index := 224#32
  ![v382.toNat, 224]

def k0_chk31 (v389 : IVec S16 32) (v391 : IVec S16 32) : Prop :=
  (∀ a x, ((![v389, v391] : Fin 2 → IVec S16 32) a x).toNat < S64x512.size a)
theorem k0_idx31_inb : ∀ (v389 : IVec S16 32) (v391 : IVec S16 32) (k0_hw31 : k0_chk31 v389 v391), ∀ a x, ((![v389, v391] : Fin 2 → IVec S16 32) a x).toNat < S64x512.size a := fun v389 v391 k0_hw31 => k0_hw31
def k0_off167 (k0_t3 : Fin k0_t3_loop.trips) : Fin 2 → Nat :=
  let c0_i32_83 : BitVec 32 := 0#32
  let c0_i32_69 : BitVec 32 := 0#32
  let c1_i32_71 : BitVec 32 := 1#32
  let arg18 : BitVec 32 := Scf.iv c0_i32_69 c1_i32_71 k0_t3
  let c1_i32_82 : BitVec 32 := 1#32
  let v110 : BitVec 32 := Scalar.muli arg18 c1_i32_82
  let v111 : BitVec 32 := Scalar.addi c0_i32_83 v110
  let v392 : Index := Scalar.indexCast v111
  let c240_176 : Index := 240#32
  ![v392.toNat, 240]

def k0_chk32 (v399 : IVec S16 32) (v401 : IVec S16 32) : Prop :=
  (∀ a x, ((![v399, v401] : Fin 2 → IVec S16 32) a x).toNat < S64x512.size a)
theorem k0_idx32_inb : ∀ (v399 : IVec S16 32) (v401 : IVec S16 32) (k0_hw32 : k0_chk32 v399 v401), ∀ a x, ((![v399, v401] : Fin 2 → IVec S16 32) a x).toNat < S64x512.size a := fun v399 v401 k0_hw32 => k0_hw32
def k0_cond4 (k0_t1 : Fin k0_t1_loop.trips) : BitVec 1 :=
  let c0_i32_19 : BitVec 32 := 0#32
  let c1_i32 : BitVec 32 := 1#32
  let arg17 : BitVec 32 := Scf.iv c0_i32_19 c1_i32 k0_t1
  let c2_i32_53 : BitVec 32 := 2#32
  let v73 : BitVec 32 := Scalar.muli arg17 c2_i32_53
  let c1_i32_54 : BitVec 32 := 1#32
  let v74 : BitVec 32 := Scalar.addi v73 c1_i32_54
  let c2_i32_79 : BitVec 32 := 2#32
  let v106 : BitVec 32 := Scalar.addi v74 c2_i32_79
  let c48_i32_80 : BitVec 32 := 48#32
  let v107 : BitVec 1 := Scalar.cmpi .slt v106 c48_i32_80
  let v108 : BitVec 32 := Scalar.extui v107
  let c0_i32_81 : BitVec 32 := 0#32
  let v109 : BitVec 1 := Scalar.cmpi .ne v108 c0_i32_81
  v109

def k0_off168 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.shrsi v1 c4_i32
  let c15_i32 : BitVec 32 := 15#32
  let v3 : BitVec 32 := Scalar.andi v1 c15_i32
  let c6_i32 : BitVec 32 := 6#32
  let v4 : BitVec 32 := Scalar.muli v3 c6_i32
  let c0_i32_19 : BitVec 32 := 0#32
  let c1_i32 : BitVec 32 := 1#32
  let arg17 : BitVec 32 := Scf.iv c0_i32_19 c1_i32 k0_t1
  let c2_i32_53 : BitVec 32 := 2#32
  let v73 : BitVec 32 := Scalar.muli arg17 c2_i32_53
  let c1_i32_54 : BitVec 32 := 1#32
  let v74 : BitVec 32 := Scalar.addi v73 c1_i32_54
  let c2_i32_82 : BitVec 32 := 2#32
  let v110 : BitVec 32 := Scalar.addi v74 c2_i32_82
  let c3_i32_83 : BitVec 32 := 3#32
  let v111 : BitVec 32 := Scalar.shrsi v110 c3_i32_83
  let v113 : BitVec 32 := Scalar.addi v4 v111
  let c7_i32_84 : BitVec 32 := 7#32
  let v112 : BitVec 32 := Scalar.andi v110 c7_i32_84
  let c32_i32_85 : BitVec 32 := 32#32
  let v114 : BitVec 32 := Scalar.muli v112 c32_i32_85
  let c0_i32_87 : BitVec 32 := 0#32
  ![v2.toNat, v113.toNat, v114.toNat, 0]
def k0_off169 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.shrsi v1 c4_i32
  let c15_i32 : BitVec 32 := 15#32
  let v3 : BitVec 32 := Scalar.andi v1 c15_i32
  let c6_i32 : BitVec 32 := 6#32
  let v4 : BitVec 32 := Scalar.muli v3 c6_i32
  let c5_i32 : BitVec 32 := 5#32
  let v26 : BitVec 32 := Scalar.addi v4 c5_i32
  let c384_i32 : BitVec 32 := 384#32
  let c0_i32_21 : BitVec 32 := 0#32
  ![v2.toNat, v26.toNat, 384, 0]
def k0_off170 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.shrsi v1 c4_i32
  let c15_i32 : BitVec 32 := 15#32
  let v3 : BitVec 32 := Scalar.andi v1 c15_i32
  let c6_i32 : BitVec 32 := 6#32
  let v4 : BitVec 32 := Scalar.muli v3 c6_i32
  let c5_i32_24 : BitVec 32 := 5#32
  let v31 : BitVec 32 := Scalar.addi v4 c5_i32_24
  let c448_i32 : BitVec 32 := 448#32
  let c0_i32_25 : BitVec 32 := 0#32
  ![v2.toNat, v31.toNat, 448, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2x96x256x256 : Shape := ⟨4, ![2, 96, 256, 256]⟩
abbrev S_ : Shape := ⟨0, ![]⟩
abbrev S2x96x262144 : Shape := ⟨3, ![2, 96, 262144]⟩
abbrev S2 : Shape := ⟨1, ![2]⟩
abbrev S2x1x1 : Shape := ⟨3, ![2, 1, 1]⟩
abbrev S96 : Shape := ⟨1, ![96]⟩
abbrev S1x96x1 : Shape := ⟨3, ![1, 96, 1]⟩
abbrev S2x96x65536 : Shape := ⟨3, ![2, 96, 65536]⟩
abbrev S2x96x65536x1 : Shape := ⟨4, ![2, 96, 65536, 1]⟩
abbrev S2x96x65536x3 : Shape := ⟨4, ![2, 96, 65536, 3]⟩
abbrev S2x96x512x512 : Shape := ⟨4, ![2, 96, 512, 512]⟩

abbrev nBuf : Space → Nat
  | .hbm => 39
  | .vmem => 0
  | .smem => 0
  | _ => 0

abbrev bufTy : (tb : Table) → Fin (tcTables nBuf tb) → BufTy
  | .hbm, ⟨0, _⟩ => ⟨S2x96x256x256, .f32⟩
  | .hbm, ⟨1, _⟩ => ⟨S2x96x256x256, .i32⟩
  | .hbm, ⟨2, _⟩ => ⟨S_, .f32⟩
  | .hbm, ⟨3, _⟩ => ⟨S2x96x262144, .f32⟩
  | .hbm, ⟨4, _⟩ => ⟨S2, .i32⟩
  | .hbm, ⟨5, _⟩ => ⟨S2x1x1, .i32⟩
  | .hbm, ⟨6, _⟩ => ⟨S96, .i32⟩
  | .hbm, ⟨7, _⟩ => ⟨S1x96x1, .i32⟩
  | .hbm, ⟨8, _⟩ => ⟨S2x96x65536, .i32⟩
  | .hbm, ⟨9, _⟩ => ⟨S2x96x65536, .f32⟩
  | .hbm, ⟨10, _⟩ => ⟨S_, .i32⟩
  | .hbm, ⟨11, _⟩ => ⟨S2x1x1, .i32⟩
  | .hbm, ⟨12, _⟩ => ⟨S2x1x1, .i1⟩
  | .hbm, ⟨13, _⟩ => ⟨S_, .i32⟩
  | .hbm, ⟨14, _⟩ => ⟨S2x1x1, .i32⟩
  | .hbm, ⟨15, _⟩ => ⟨S2x1x1, .i32⟩
  | .hbm, ⟨16, _⟩ => ⟨S2x1x1, .i32⟩
  | .hbm, ⟨17, _⟩ => ⟨S_, .i32⟩
  | .hbm, ⟨18, _⟩ => ⟨S1x96x1, .i32⟩
  | .hbm, ⟨19, _⟩ => ⟨S1x96x1, .i1⟩
  | .hbm, ⟨20, _⟩ => ⟨S_, .i32⟩
  | .hbm, ⟨21, _⟩ => ⟨S1x96x1, .i32⟩
  | .hbm, ⟨22, _⟩ => ⟨S1x96x1, .i32⟩
  | .hbm, ⟨23, _⟩ => ⟨S1x96x1, .i32⟩
  | .hbm, ⟨24, _⟩ => ⟨S_, .i32⟩
  | .hbm, ⟨25, _⟩ => ⟨S2x96x65536, .i32⟩
  | .hbm, ⟨26, _⟩ => ⟨S2x96x65536, .i1⟩
  | .hbm, ⟨27, _⟩ => ⟨S_, .i32⟩
  | .hbm, ⟨28, _⟩ => ⟨S2x96x65536, .i32⟩
  | .hbm, ⟨29, _⟩ => ⟨S2x96x65536, .i32⟩
  | .hbm, ⟨30, _⟩ => ⟨S2x96x65536, .i32⟩
  | .hbm, ⟨31, _⟩ => ⟨S2x96x65536, .i32⟩
  | .hbm, ⟨32, _⟩ => ⟨S2x96x65536, .i32⟩
  | .hbm, ⟨33, _⟩ => ⟨S2x96x65536x1, .i32⟩
  | .hbm, ⟨34, _⟩ => ⟨S2x96x65536x1, .i32⟩
  | .hbm, ⟨35, _⟩ => ⟨S2x96x65536x1, .i32⟩
  | .hbm, ⟨36, _⟩ => ⟨S2x96x65536x3, .i32⟩
  | .hbm, ⟨37, _⟩ => ⟨S2x96x262144, .f32⟩
  | .hbm, ⟨38, _⟩ => ⟨S2x96x512x512, .f32⟩
  | _, _ => ⟨S2x96x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_3 : Ref sig .tc := ⟨.hbm, 24, rfl⟩
abbrev main_v17 : Ref sig .tc := ⟨.hbm, 25, rfl⟩
abbrev main_v18 : Ref sig .tc := ⟨.hbm, 26, rfl⟩
abbrev main_c_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== Proof.Block.lean ====
/-
  What one block of the kernel computes, as plain functions: a block is 32 rows of values and of flat output
  positions, and its result is the 64 output rows they cover. `blk` is that result. The kernel builds it two output
  rows at a time: it zeroes them sixteen lanes at a time (`zeroed`), then scatters the sixteen chunks of the input
  row into them (`scat`). The theorems take each of these steps: one zero store, one scatter, one trip.
-/
module

public import proofs.«01_k».proof.Proof.Gen.KernelIdeal
public import Idealize.ShloMosaic.Lib.ValueLayout
public import Idealize.ShloMosaic.Lib.VecWindow

@[expose] public section

noncomputable section

namespace Cert.Proof.Unpool

open Cert.KernelIdeal Cert.KernelIdeal.Gen
open Idealize.ShloMosaic Idealize.ShloMosaic.ValueIdx

variable {F : FTy → Type} [FloatOps F]

/-- The zero the kernel stores. -/
def zr : Elt F .f32 := Scalar.ofBits .f32 0x00000000#32

/-- The input position whose window holds the output position `i`. -/
def half (i : S64x512.Idx) : S32x256.Idx :=
  ix2 ⟨(i 0).val / 2, by have h : (i 0).val < 64 := (i 0).isLt; omega⟩
    ⟨(i 1).val / 2, by have h : (i 1).val < 512 := (i 1).isLt; omega⟩

/-- The block of output rows `row0 … row0 + 63`: a position holds the value of its window when the window's index
names it, zero otherwise. -/
def blk (row0 : ℕ) (vb : S32x256.Idx → Elt F .f32) (ib : S32x256.Idx → BitVec 32) : S64x512.Idx → Elt F .f32 :=
  fun i => if (ib (half i)).toNat = (row0 + (i 0).val) * 512 + (i 1).val then vb (half i) else zr

/-- Every index of the block names a position of its own 2x2 window. -/
def InBlk (row0 : ℕ) (ib : S32x256.Idx → BitVec 32) : Prop :=
  row0 ≤ 448 ∧ ∀ (r : Fin 32) (c : Fin 256), ∃ a b : ℕ, a < 2 ∧ b < 2 ∧
    (ib (ix2 r c)).toNat = (row0 + 2 * r.val + a) * 512 + (2 * c.val + b)

/-- `f` with the first `n` of the 64 pieces (sixteen lanes each, the two rows alternating) of the rows `2r` and
`2r + 1` zeroed. -/
def zeroed (r n : ℕ) (f : S64x512.Idx → Elt F .f32) : S64x512.Idx → Elt F .f32 :=
  fun i => if (i 0).val / 2 = r ∧ (i 1).val / 16 * 2 + (i 0).val % 2 < n then zr else f i

/-- `f` with the rows `2r` and `2r + 1` replaced: their first `32 n` columns by the block's, the others by zero. -/
def scat (row0 : ℕ) (vb : S32x256.Idx → Elt F .f32) (ib : S32x256.Idx → BitVec 32) (r n : ℕ)
    (f : S64x512.Idx → Elt F .f32) : S64x512.Idx → Elt F .f32 :=
  fun i => if (i 0).val / 2 = r then (if (i 1).val / 32 < n then blk row0 vb ib i else zr) else f i

/-- `f` with its first `2 r` rows replaced by the block's. -/
def done (row0 : ℕ) (vb : S32x256.Idx → Elt F .f32) (ib : S32x256.Idx → BitVec 32) (r : ℕ)
    (f : S64x512.Idx → Elt F .f32) : S64x512.Idx → Elt F .f32 :=
  fun i => if (i 0).val / 2 < r then blk row0 vb ib i else f i

variable (row0 : ℕ) (vb : S32x256.Idx → Elt F .f32) (ib : S32x256.Idx → BitVec 32) (f : S64x512.Idx → Elt F .f32)

/-- Nothing zeroed. -/
theorem zeroed_zero (r : ℕ) : zeroed r 0 f = f := by
  funext i; simp [zeroed]

/-- Both rows zeroed: nothing scattered yet. -/
theorem zeroed_all (r : ℕ) : zeroed r 64 f = scat row0 vb ib r 0 f := by
  funext i
  have h0 : (i 0).val < 64 := (i 0).isLt
  have h1 : (i 1).val < 512 := (i 1).isLt
  have h : (i 1).val / 16 * 2 + (i 0).val % 2 < 64 := by omega
  simp only [zeroed, scat, h, and_true, Nat.not_lt_zero, if_false]

/-- All sixteen chunks scattered: two more rows done. -/
theorem scat_all (r : ℕ) : scat row0 vb ib r 16 (done row0 vb ib r f) = done row0 vb ib (r + 1) f := by
  funext i
  have h1 : (i 1).val < 512 := (i 1).isLt
  have h : (i 1).val / 32 < 16 := by omega
  simp only [done, scat, h, if_true]
  by_cases e : (i 0).val / 2 = r
  · rw [if_pos e, if_pos (by omega)]
  · rw [if_neg e]
    by_cases e' : (i 0).val / 2 < r
    · rw [if_pos e', if_pos (by omega)]
    · rw [if_neg e', if_neg (by omega)]

/-- No row done. -/
theorem done_zero : done row0 vb ib 0 f = f := by
  funext i; simp [done]

/-- Every row done: the block. -/
theorem done_all : done row0 vb ib 32 f = blk row0 vb ib := by
  funext i
  have h0 : (i 0).val < 64 := (i 0).isLt
  simp only [done]; rw [if_pos (by omega)]

/-! ## A scatter of sixteen lanes -/

/-- A left fold of conditional updates, when every update of `j` brings the same value `y`: `y` where some update
hits, the old value otherwise. -/
theorem foldl_hit {α β ι : Type} (l : List ι) (hit : ι → α → Prop) [∀ k j, Decidable (hit k j)] (val : ι → β) (g : α → β)
    (j : α) (y : β) (hy : ∀ k, hit k j → val k = y) :
    (l.foldl (fun g k => fun j => if hit k j then val k else g j) g) j = if ∃ k ∈ l, hit k j then y else g j := by
  induction l generalizing g with
  | nil => simp
  | cons k l ih =>
    rw [List.foldl_cons, ih]
    by_cases h : ∃ k' ∈ l, hit k' j
    · rw [if_pos h, if_pos (by obtain ⟨k', hk, hh⟩ := h; exact ⟨k', List.mem_cons_of_mem _ hk, hh⟩)]
    · rw [if_neg h]
      by_cases hk : hit k j
      · rw [if_pos hk, if_pos ⟨k, List.mem_cons_self, hk⟩, hy k hk]
      · rw [if_neg hk, if_neg]
        rintro ⟨k', hm, hh⟩
        rcases List.mem_cons.mp hm with rfl | hm
        · exact hk hh
        · exact h ⟨k', hm, hh⟩

/-- The unmasked overwriting scatter of sixteen lanes into the 64x512 buffer, at a position all of whose lanes bring `y`. -/
theorem storeIdx_at (g : Vec F S64x512 .f32) (idxs : Fin 2 → IVec S16 32) (v : Vec F S16 .f32)
    (h : ∀ a x, (idxs a x).toNat < S64x512.size a) (j : S64x512.Idx) (y : Elt F .f32)
    (hy : ∀ k : Fin 16, (idxs 0 (ix1 k)).toNat = (j 0).val → (idxs 1 (ix1 k)).toNat = (j 1).val → v (ix1 k) = y) :
    storeIdx (s := S64x512) (d := ![16]) g idxs v (fun _ => 1#1) false h j
      = if ∃ k : Fin 16, (idxs 0 (ix1 k)).toNat = (j 0).val ∧ (idxs 1 (ix1 k)).toNat = (j 1).val then y else g j := by
  have hl : ∀ k : Fin 16, (Shape.ofLane (d := ![16]) k : S16.Idx) = ix1 k := fun k => by
    funext a; match a with | ⟨0, _⟩ => rfl
  have e := foldl_hit (List.finRange 16)
    (fun (k : Fin 16) (j : S64x512.Idx) => ∀ a, (j a).val = (idxAt idxs h (Shape.ofLane (d := ![16]) k) a).val)
    (fun k => v (Shape.ofLane (d := ![16]) k)) g j y (fun k hk => by
      have h0 := hk 0
      have h1 := hk 1
      rw [hl] at h0 h1 ⊢
      exact hy k h0.symm h1.symm)
  have e2 : storeIdx (s := S64x512) (d := ![16]) g idxs v (fun _ => 1#1) false h j
      = (List.foldl (fun g (k : Fin 16) => fun j => if (∀ a, (j a).val = (idxAt idxs h (Shape.ofLane (d := ![16]) k) a).val)
          then v (Shape.ofLane (d := ![16]) k) else g j) g (List.finRange 16)) j := by
    unfold storeIdx
    simp only [if_true, Bool.false_eq_true, if_false]
    rfl
  rw [e2, e]
  congr 1
  apply propext
  constructor
  · rintro ⟨k, -, hk⟩
    have h0 := hk 0
    have h1 := hk 1
    rw [hl] at h0 h1
    exact ⟨k, h0.symm, h1.symm⟩
  · rintro ⟨k, h0, h1⟩
    refine ⟨k, List.mem_finRange k, fun a => ?_⟩
    rw [hl]
    match a with
    | ⟨0, _⟩ => exact h0.symm
    | ⟨1, _⟩ => exact h1.symm

/-- The row each lane's index names inside the block whose first row is `w`. -/
def lrOf (w : BitVec 32) (ld : Vec F S1x16 .i32) : IVec S16 32 :=
  subi (shrsi (shapeCast S16 ld shapeCasts_S1x16_S16) (broadcast S16 9#32)) (broadcast S16 w)

/-- The column each lane's index names. -/
def lcOf (ld : Vec F S1x16 .i32) : IVec S16 32 :=
  andi (shapeCast S16 ld shapeCasts_S1x16_S16) (broadcast S16 511#32)

/-- A word naming row `R` and column `C` of a 512-column array splits into them by shift and mask. -/
theorem split_word (x w : BitVec 32) (row0 R C : ℕ) (hw : w.toNat = row0) (hx : x.toNat = (row0 + R) * 512 + C) (hC : C < 512)
    (hR : row0 + R < 512) :
    (IntOp.subi (IntOp.shrsi .vector x 9#32) w).toNat = R ∧ (IntOp.andi x 511#32).toNat = C := by
  have hlt : x.toNat < 2 ^ 31 := by omega
  constructor
  · have hs : (IntOp.shrsi .vector x 9#32).toNat = row0 + R := by
      rw [IntOp.shrsi, if_pos (by decide)]
      rw [BitVec.sshiftRight_eq', BitVec.sshiftRight_eq_of_msb_false (by rw [BitVec.msb_eq_false_iff_two_mul_lt]; omega)]
      rw [BitVec.toNat_ushiftRight, Nat.shiftRight_eq_div_pow]
      have : (9#32 : BitVec 32).toNat = 9 := rfl
      rw [this]; omega
    rw [IntOp.subi, BitVec.toNat_sub, hs, hw]
    omega
  · rw [IntOp.andi, BitVec.toNat_and]
    have : (511#32 : BitVec 32).toNat = 2 ^ 9 - 1 := rfl
    rw [this, Nat.and_two_pow_sub_one_eq_mod, hx]
    omega

/-- The window of one row and sixteen columns, by coordinates. -/
theorem window_row {e : EltTy} (g : S32x256.Idx → Elt F e) (r n : ℕ) (hr : r < 32) (hn : n < 16)
    (inb : ∀ a, (![r, 16 * n] : Fin 2 → ℕ) a + S1x16.size a ≤ S32x256.size a) (u : Fin 1) (k : Fin 16) :
    VecWindow.window (s := S32x256) g (![r, 16 * n] : Fin 2 → ℕ) S1x16.size inb (ix2 u k) = g (ix2 ⟨r, hr⟩ ⟨16 * n + k.val, by omega⟩) := by
  refine congrArg g (funext fun a => Fin.ext ?_)
  match a with
  | ⟨0, _⟩ => show r + 1 * u.val = r; omega
  | ⟨1, _⟩ => show 16 * n + 1 * k.val = 16 * n + k.val; omega

variable {row0 ib}

/-- Where the sixteen lanes of chunk `n` of row `r` go. -/
theorem lanes_at (hib : InBlk row0 ib) (w : BitVec 32) (hw : w.toNat = row0) (r n : ℕ) (hr : r < 32) (hn : n < 16)
    (inb : ∀ a, (![r, 16 * n] : Fin 2 → ℕ) a + S1x16.size a ≤ S32x256.size a) (k : Fin 16) :
    ∃ a b : ℕ, a < 2 ∧ b < 2 ∧
      (lrOf (F := F) w (VecWindow.window (s := S32x256) ib (![r, 16 * n] : Fin 2 → ℕ) S1x16.size inb) (ix1 k)).toNat = 2 * r + a ∧
      (lcOf (F := F) (VecWindow.window (s := S32x256) ib (![r, 16 * n] : Fin 2 → ℕ) S1x16.size inb) (ix1 k)).toNat = 2 * (16 * n + k.val) + b ∧
      (ib (ix2 ⟨r, hr⟩ ⟨16 * n + k.val, by omega⟩)).toNat = (row0 + (2 * r + a)) * 512 + (2 * (16 * n + k.val) + b) := by
  obtain ⟨hrow, h⟩ := hib
  obtain ⟨a, b, ha, hb, e⟩ := h ⟨r, hr⟩ ⟨16 * n + k.val, by omega⟩
  have e' : (ib (ix2 ⟨r, hr⟩ ⟨16 * n + k.val, by omega⟩)).toNat = (row0 + (2 * r + a)) * 512 + (2 * (16 * n + k.val) + b) := by
    rw [e, Nat.add_assoc]
  obtain ⟨s1, s2⟩ := split_word _ w row0 (2 * r + a) (2 * (16 * n + k.val) + b) hw e' (by omega) (by omega)
  have hc : shapeCast S16 (VecWindow.window (s := S32x256) ib (![r, 16 * n] : Fin 2 → ℕ) S1x16.size inb) shapeCasts_S1x16_S16 (ix1 k)
      = ib (ix2 ⟨r, hr⟩ ⟨16 * n + k.val, by omega⟩) :=
    (shapeCast_1a_a_apply _ shapeCasts_S1x16_S16 k).trans (window_row (F := F) (e := .i32) ib r n hr hn inb 0 k)
  refine ⟨a, b, ha, hb, ?_, ?_, e'⟩
  · rw [← s1, ← hc]; rfl
  · rw [← s2, ← hc]; rfl

/-- The lanes of chunk `n` of row `r` stay inside the buffer. -/
theorem lanes_inb (hib : InBlk row0 ib) (w : BitVec 32) (hw : w.toNat = row0) (r n : ℕ) (hr : r < 32) (hn : n < 16)
    (inb : ∀ a, (![r, 16 * n] : Fin 2 → ℕ) a + S1x16.size a ≤ S32x256.size a) :
    ∀ a x, ((![lrOf (F := F) w (VecWindow.window (s := S32x256) ib (![r, 16 * n] : Fin 2 → ℕ) S1x16.size inb),
      lcOf (F := F) (VecWindow.window (s := S32x256) ib (![r, 16 * n] : Fin 2 → ℕ) S1x16.size inb)] : Fin 2 → IVec S16 32) a x).toNat < S64x512.size a := by
  intro a x
  obtain ⟨k, rfl⟩ : ∃ k : Fin 16, x = ix1 k := ⟨x 0, eq_ix1 x⟩
  obtain ⟨a', b', ha, hb, e1, e2, -⟩ := lanes_at (F := F) hib w hw r n hr hn inb k
  match a with
  | ⟨0, _⟩ => exact lt_of_eq_of_lt e1 (show _ < 64 by omega)
  | ⟨1, _⟩ => exact lt_of_eq_of_lt e2 (show _ < 512 by omega)

/-- One scatter: sixteen more lanes of the row, so 32 more columns of the two output rows. -/
theorem scat_step (hib : InBlk row0 ib) (w : BitVec 32) (hw : w.toNat = row0) (r n : ℕ) (hr : r < 32) (hn : n < 16)
    (inb : ∀ a, (![r, 16 * n] : Fin 2 → ℕ) a + S1x16.size a ≤ S32x256.size a)
    (h : ∀ a x, ((![lrOf (F := F) w (VecWindow.window (s := S32x256) ib (![r, 16 * n] : Fin 2 → ℕ) S1x16.size inb),
      lcOf (F := F) (VecWindow.window (s := S32x256) ib (![r, 16 * n] : Fin 2 → ℕ) S1x16.size inb)] : Fin 2 → IVec S16 32) a x).toNat < S64x512.size a) :
    storeIdx (s := S64x512) (d := ![16]) (scat row0 vb ib r n f) _
        (shapeCast S16 (VecWindow.window (s := S32x256) vb (![r, 16 * n] : Fin 2 → ℕ) S1x16.size inb) shapeCasts_S1x16_S16) (fun _ => 1#1) false h
      = scat row0 vb ib r (n + 1) f := by
  funext j
  have h0 : (j 0).val < 64 := (j 0).isLt
  have h1 : (j 1).val < 512 := (j 1).isLt
  have hv : ∀ k : Fin 16, shapeCast S16 (VecWindow.window (s := S32x256) vb (![r, 16 * n] : Fin 2 → ℕ) S1x16.size inb) shapeCasts_S1x16_S16 (ix1 k)
      = vb (ix2 ⟨r, hr⟩ ⟨16 * n + k.val, by omega⟩) := fun k =>
    (shapeCast_1a_a_apply _ shapeCasts_S1x16_S16 k).trans (window_row (F := F) (e := .f32) vb r n hr hn inb 0 k)
  have hhalf : ∀ k : Fin 16, (j 0).val / 2 = r → (j 1).val / 2 = 16 * n + k.val → half j = ix2 ⟨r, hr⟩ ⟨16 * n + k.val, by omega⟩ :=
    fun k e0 e1 => by
      unfold half
      congr 1
      · exact Fin.ext e0
      · exact Fin.ext e1
  rw [storeIdx_at _ _ _ h j (blk row0 vb ib j) ?_]
  · by_cases hit : ∃ k : Fin 16,
        (lrOf (F := F) w (VecWindow.window (s := S32x256) ib (![r, 16 * n] : Fin 2 → ℕ) S1x16.size inb) (ix1 k)).toNat = (j 0).val ∧
        (lcOf (F := F) (VecWindow.window (s := S32x256) ib (![r, 16 * n] : Fin 2 → ℕ) S1x16.size inb) (ix1 k)).toNat = (j 1).val
    · refine (if_pos hit).trans ?_
      obtain ⟨k, k0, k1⟩ := hit
      obtain ⟨a, b, ha, hb, e0, e1, -⟩ := lanes_at (F := F) hib w hw r n hr hn inb k
      rw [e0] at k0; rw [e1] at k1
      simp only [scat]
      rw [if_pos (by omega), if_pos (by omega)]
    · refine (if_neg hit).trans ?_
      simp only [scat]
      by_cases hr' : (j 0).val / 2 = r
      · rw [if_pos hr', if_pos hr']
        by_cases hlt : (j 1).val / 32 < n
        · rw [if_pos hlt, if_pos (by omega)]
        · rw [if_neg hlt]
          by_cases heq : (j 1).val / 32 = n
          · rw [if_pos (by omega)]
            obtain ⟨a, b, ha, hb, e0, e1, e2⟩ := lanes_at (F := F) hib w hw r n hr hn inb ⟨(j 1).val / 2 - 16 * n, by omega⟩
            have hj := hhalf ⟨(j 1).val / 2 - 16 * n, by omega⟩ hr' (by show _ = 16 * n + ((j 1).val / 2 - 16 * n); omega)
            unfold blk
            rw [hj, e2, if_neg]
            intro hne
            refine hit ⟨⟨(j 1).val / 2 - 16 * n, by omega⟩, e0.trans ?_, e1.trans ?_⟩
            · simp only at hne; omega
            · simp only at hne ⊢; omega
          · rw [if_neg (by omega)]
      · rw [if_neg hr', if_neg hr']
  · intro k k0 k1
    obtain ⟨a, b, ha, hb, e0, e1, e2⟩ := lanes_at (F := F) hib w hw r n hr hn inb k
    replace k0 := e0.symm.trans k0
    replace k1 := e1.symm.trans k1
    rw [hv]
    unfold blk
    rw [hhalf k (by omega) (by omega), e2, if_pos (by omega)]

end Cert.Proof.Unpool
-- ==== Proof.Steps.lean ====
/-
  The resource algebra of the launch, and the rules by which the body of the kernel is run: what a scratch buffer
  holds is a plain function of its index (`holds`), a load reads a window of it, and the kernel's two kinds of store
  take it through the steps of Proof/Block.lean.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.WritesUnit
public import Idealize.ShloMosaic.Lib.Tactic
public import proofs.«01_k».proof.Proof.Block
public import proofs.«01_k».proof.Proof.Gen.KernelIdeal.Skeleton

@[expose] public section

noncomputable section

namespace Cert.Proof.Unpool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The element of the launch handshake's state. -/
abbrev UH : Type := URounds (GSem nD τ sig) ℕ
/-- The user part of the ghost state: the handshake's state and the transfers' counters. -/
abbrev UU : Type := UH × Counters

local notation "𝕄" => MT nD τ sig (HIx 1) (Elt F) ℕ UU ℕ

/-- No loop of the kernel is measured by a variant. -/
abbrev 𝒱₀ : Variants := Variants.none

/-- The buffer behind the view `m` is owned whole, and the view reads `g`. -/
def holds (thr : Thread nD τ) {s : Shape} {e : EltTy} (m : Memref sig thr.2.kind .vmem s e) (g : s.Idx → Elt F e) : sProp 𝕄 :=
  iprop(∃ f : Buf (Elt F) (m.view.loc thr), ⌜m.view.read (Elt F) f = g⌝ ∗ (m.view.loc thr ↦[m.view.set]{fullShare} f))

variable (thr : Thread nD τ) {Q : PUnit → sProp 𝕄}

/-- A load at a unit-stride rectangle reads a window of what the buffer holds. -/
theorem wp_ld {α : Type} {Q : α → sProp 𝕄} {s : Shape} {e : EltTy} {m : Memref sig thr.2.kind .vmem s e} {off size : Fin s.rank → ℕ} [hc : ClosedOff off]
    {inb : ∀ a, off a + size a ≤ s.size a} {hl : m.view.LoadsAt (Rect.unit off size inb).toLoadRect}
    {k : ((Rect.unit off size inb).toLoadRect.shape.Idx → Elt F e) → Prog (TpuEff nD τ sig (Elt F) Λ₀ thr.2) α} {g : s.Idx → Elt F e} :
    (holds thr m g : sProp 𝕄)
      ⊢ iprop((holds thr m g -∗ wp frame (wpE (defs₀ (F := F)) 𝒱₀ thr none) Set.univ
            (k (VecWindow.window g hc.form size (fun a => hc.eq ▸ inb a))) Q)
        -∗ wp frame (wpE (defs₀ (F := F)) 𝒱₀ thr none) Set.univ (.op (.load m (Rect.unit off size inb).toLoadRect hl) k) Q) := by
  unfold holds
  iintro ⟨%f, %hf, H⟩ Hk
  subst hf
  iapply (wp_load 𝒱₀ thr none Set.univ (m := m) (S := m.view.set) (f := f) (View.setOn_subset_set _ _)) $$ H
  iintro H
  rw [View.readAt_unit m.view f inb hc.eq (fun a => hc.eq ▸ inb a)]
  iapply Hk
  iexists f
  isplitr; · ipureintro; rfl
  iexact H

/-- A store of sixteen zero lanes, after the load that precedes it: one more piece of the trip's two rows zeroed. -/
theorem wp_zero {α : Type} {Q : α → sProp 𝕄} {m : Memref sig thr.2.kind .vmem S64x512 .f32} {off : Fin 2 → ℕ} [hc : ClosedOff off]
    {inb : ∀ a, off a + S1x16.size a ≤ S64x512.size a} {hl : m.view.LoadsAt (Rect.unit (s := S64x512) off S1x16.size inb).toLoadRect}
    {w : S1x16.Idx → Elt F .f32} {hx : (m.access (Rect.unit (s := S64x512) off S1x16.size inb)).Stores Finset.univ} {hm}
    {k : PUnit → Prog (TpuEff nD τ sig (Elt F) Λ₀ thr.2) α} {r n : ℕ} {g : S64x512.Idx → Elt F .f32} :
    (holds thr m (zeroed r n g) : sProp 𝕄)
      ⊢ iprop(iprop(⌜(hc.form = ![2 * r + n % 2, 16 * (n / 2)]) ∧ w = fun _ => zr⌝ ∗ (holds thr m (zeroed r (n + 1) g)
            -∗ wp frame (wpE (defs₀ (F := F)) 𝒱₀ thr none) Set.univ (k ⟨⟩) Q))
        -∗ wp frame (wpE (defs₀ (F := F)) 𝒱₀ thr none) Set.univ
            (.op (.load m (Rect.unit (s := S64x512) off S1x16.size inb).toLoadRect hl) fun _ =>
              .op (.store m (Rect.unit (s := S64x512) off S1x16.size inb) w Finset.univ hx hm) k) Q) := by
  unfold holds
  iintro ⟨%f, %hf, H⟩ ⟨%hw, Hk⟩
  obtain ⟨hw, rfl⟩ := hw
  iapply (wp_load 𝒱₀ thr none Set.univ (m := m) (S := m.view.set) (f := f) (View.setOn_subset_set _ _)) $$ H
  iintro H
  iapply (wp_store 𝒱₀ thr none Set.univ (m := m) (r := Rect.unit (s := S64x512) off S1x16.size inb) (S := m.view.set) (f := f)
    ((View.setOn_subset_set _ _).trans (View.set_slice_subset _ _))) $$ H
  iintro H
  iapply Hk
  iexists _
  isplitr; rotate_left; · iexact H
  ipureintro
  have h := hc.eq.trans hw
  funext y
  have h0 : (y 0).val < 64 := (y 0).isLt
  have h1 : (y 1).val < 512 := (y 1).isLt
  refine (View.read_writes_cons_unit m.view f inb (fun _ => zr) [] y h).trans ?_
  rw [View.writes_nil, hf]
  simp only [zeroed, Fin.forall_fin_two]
  simp only [dite_eq_ite, Matrix.cons_val_zero, Matrix.cons_val_one]
  by_cases hh : (y 0).val / 2 = r ∧ (y 1).val / 16 * 2 + (y 0).val % 2 < n + 1
  · rw [if_pos hh]
    by_cases hn : (y 0).val / 2 = r ∧ (y 1).val / 16 * 2 + (y 0).val % 2 < n
    · rw [if_pos hn]
      by_cases c : (2 * r + n % 2 ≤ (y 0).val ∧ (y 0).val < 2 * r + n % 2 + 1) ∧ 16 * (n / 2) ≤ (y 1).val ∧ (y 1).val < 16 * (n / 2) + 16
      · exact dif_pos c
      · exact dif_neg c
    · exact dif_pos (by omega)
  · rw [if_neg hh]; exact (dif_neg (by omega)).trans (if_neg (by omega))

/-- A checked scatter of sixteen lanes: 32 more columns of the trip's two rows. -/
theorem wp_scat {α : Type} {Q : α → sProp 𝕄} {m : Memref sig thr.2.kind .vmem S64x512 .f32}
    {row0 : ℕ} {vb : S32x256.Idx → Elt F .f32} {ib : S32x256.Idx → BitVec 32} (hib : InBlk row0 ib) {lr lc : IVec S16 32} {v : Vec F S16 .f32}
    {hin : PLift (∀ a x, ((![lr, lc] : Fin 2 → IVec S16 32) a x).toNat < S64x512.size a) → ∀ a x, ((![lr, lc] : Fin 2 → IVec S16 32) a x).toNat < S64x512.size a}
    {d : Decidable (∀ a x, ((![lr, lc] : Fin 2 → IVec S16 32) a x).toNat < S64x512.size a)}
    {hs : (m.access (.whole S64x512)).Stores Finset.univ}
    {k : PUnit → Prog (TpuEff nD τ sig (Elt F) Λ₀ thr.2) α} {r n : ℕ} {g : S64x512.Idx → Elt F .f32} :
    (holds thr m (scat row0 vb ib r n g) : sProp 𝕄)
      ⊢ iprop(iprop(⌜∃ (w : BitVec 32) (inb : ∀ a, (![r, 16 * n] : Fin 2 → ℕ) a + S1x16.size a ≤ S32x256.size a), w.toNat = row0 ∧ r < 32 ∧ n < 16 ∧
              lr = lrOf (F := F) w (VecWindow.window (s := S32x256) ib (![r, 16 * n] : Fin 2 → ℕ) S1x16.size inb) ∧
              lc = lcOf (F := F) (VecWindow.window (s := S32x256) ib (![r, 16 * n] : Fin 2 → ℕ) S1x16.size inb) ∧
              v = shapeCast S16 (VecWindow.window (s := S32x256) vb (![r, 16 * n] : Fin 2 → ℕ) S1x16.size inb) shapeCasts_S1x16_S16⌝
          ∗ (holds thr m (scat row0 vb ib r (n + 1) g)
            -∗ wp frame (wpE (defs₀ (F := F)) 𝒱₀ thr none) Set.univ (k ⟨⟩) Q))
        -∗ wp frame (wpE (defs₀ (F := F)) 𝒱₀ thr none) Set.univ
            (.op (.assume (∀ a x, ((![lr, lc] : Fin 2 → IVec S16 32) a x).toNat < S64x512.size a) d) fun h =>
              SparseCore.vectorStoreIdx m ![lr, lc] v (fun _ => 1#1) false (hin h) hs >>= k) Q) := by
  unfold holds
  iintro ⟨%f, %hf, H⟩ ⟨%hw, Hk⟩
  obtain ⟨w, inb, hw, hr, hn, rfl, rfl, rfl⟩ := hw
  rw [wp_assume_of 𝒱₀ thr none Set.univ (lanes_inb (F := F) hib w hw r n hr hn inb)]
  have hset : (m.access (.whole S64x512)).set = m.view.set := by
    show (m.view.slice (.whole S64x512)).set = m.view.set
    rw [View.set_slice, Rect.set_whole]; rfl
  iapply (SparseCore.wp_vectorStoreIdx 𝒱₀ thr none Set.univ (base := m) (f := f)) $$ [H]
  · rw [hset]; iexact H
  iintro H
  iapply Hk
  iexists _
  isplitr; rotate_left; · rw [hset]; iexact H
  ipureintro
  have hr' : (m.access (.whole S64x512)).read (Elt F) f = scat row0 vb ib r n g := by
    rw [← hf]; funext y
    refine congrArg (m.view.read (Elt F) f) (funext fun a => Fin.ext ?_)
    show 0 + 1 * (y a).val = (y a).val; omega
  rw [hr']
  refine (funext fun y => ?_ : _ = _).trans (scat_step vb g hib w hw r n hr hn inb (lanes_inb (F := F) hib w hw r n hr hn inb))
  have hy : (Rect.whole S64x512).emb y = y := funext fun a => Fin.ext (by show 0 + 1 * (y a).val = (y a).val; omega)
  refine (congrArg _ hy.symm).trans (View.read_slice_write_emb (v := m.view) (Rect.whole S64x512) f _ (Finset.mem_univ _))

end Cert.Proof.Unpool
-- ==== Proof.Offsets.lean ====
/-
  Where the blocks lie. Task `w` of the 32 owns the six planes of batch `w / 16` that begin at plane `(w % 16) * 6`,
  and its step `t` of 48 is block `t % 8` of its plane `t / 8`: 32 rows of the inputs, 64 rows of the result. The
  offsets of every slice the kernel takes, and the conditions it tests, in these terms.
-/
module

public import proofs.«01_k».proof.Proof.Gen.KernelIdeal

@[expose] public section

namespace Cert.Proof.Unpool

open Cert.KernelIdeal Cert.KernelIdeal.Gen
open Idealize.ShloMosaic

/-- The task's number among the 32. -/
def wid (L : grid0.Coords) : ℕ := 2 * (L 1).val + (L 0).val

/-- Task numbers are below 32. -/
theorem wid_lt (L : grid0.Coords) : wid L < 32 := by
  have h0 : (L 0).val < 2 := (L 0).isLt
  have h1 : (L 1).val < 16 := (L 1).isLt
  unfold wid; omega

/-- The offsets of step `t`'s block in an array of planes cut into blocks of `rows` rows. -/
def offs (rows w t : ℕ) : Fin 4 → ℕ := ![w / 16, w % 16 * 6 + t / 8, t % 8 * rows, 0]

/-- The loop over pairs of steps makes 24 trips. -/
theorem trips1 : k0_t1_loop.trips = 24 := by decide +kernel
/-- The loop over the rows of an even step makes 32 trips. -/
theorem trips2 : k0_t2_loop.trips = 32 := by decide +kernel
/-- The loop over the rows of an odd step makes 32 trips. -/
theorem trips3 : k0_t3_loop.trips = 32 := by decide +kernel

/-- The first step's input block. -/
theorem off1_eq : ∀ i : grid0.Coords, k0_off1 i = offs 32 (wid i) 0 := by decide +kernel
/-- The second step's input block. -/
theorem off2_eq : ∀ i : grid0.Coords, k0_off2 i = offs 32 (wid i) 1 := by decide +kernel
/-- The input block of trip `k`'s even step. -/
theorem off3_even : ∀ (i : grid0.Coords) (k : Fin k0_t1_loop.trips), k0_off3 i k 0#32 = offs 32 (wid i) (2 * k.val) := by
  decide +kernel
/-- The input block of trip `k`'s odd step. -/
theorem off3_odd : ∀ (i : grid0.Coords) (k : Fin k0_t1_loop.trips), k0_off3 i k 1#32 = offs 32 (wid i) (2 * k.val + 1) := by
  decide +kernel
/-- The result block waited for before trip `k`'s even step. -/
theorem off4_eq : ∀ (i : grid0.Coords) (k : Fin k0_t1_loop.trips), 0 < k.val → k0_off4 i k = offs 64 (wid i) (2 * k.val - 2) := by
  decide +kernel
/-- The result block of trip `k`'s even step. -/
theorem off85_even : ∀ (i : grid0.Coords) (k : Fin k0_t1_loop.trips), k0_off85 i k 0#32 = offs 64 (wid i) (2 * k.val) := by
  decide +kernel
/-- The result block of trip `k`'s odd step. -/
theorem off85_odd : ∀ (i : grid0.Coords) (k : Fin k0_t1_loop.trips), k0_off85 i k 1#32 = offs 64 (wid i) (2 * k.val + 1) := by
  decide +kernel
/-- The input block fetched for the next trip's even step. -/
theorem off86_eq : ∀ (i : grid0.Coords) (k : Fin k0_t1_loop.trips), k.val + 1 < 24 → k0_off86 i k = offs 32 (wid i) (2 * k.val + 2) := by
  decide +kernel
/-- The result block waited for before trip `k`'s odd step. -/
theorem off87_eq : ∀ (i : grid0.Coords) (k : Fin k0_t1_loop.trips), 0 < k.val → k0_off87 i k = offs 64 (wid i) (2 * k.val - 1) := by
  decide +kernel
/-- The input block fetched for the next trip's odd step. -/
theorem off168_eq : ∀ (i : grid0.Coords) (k : Fin k0_t1_loop.trips), k.val + 1 < 24 → k0_off168 i k = offs 32 (wid i) (2 * k.val + 3) := by
  decide +kernel
/-- The last even step's result block. -/
theorem off169_eq : ∀ i : grid0.Coords, k0_off169 i = offs 64 (wid i) 46 := by decide +kernel
/-- The last odd step's result block. -/
theorem off170_eq : ∀ i : grid0.Coords, k0_off170 i = offs 64 (wid i) 47 := by decide +kernel

/-- The even step waits for an earlier result unless the trip is the first. -/
theorem cond1_iff : ∀ k : Fin k0_t1_loop.trips, k0_cond1 k = 1#1 ↔ 0 < k.val := by decide +kernel
/-- The even step fetches for the next trip unless the trip is the last. -/
theorem cond2_iff : ∀ k : Fin k0_t1_loop.trips, k0_cond2 k = 1#1 ↔ k.val + 1 < 24 := by decide +kernel
/-- The odd step waits for an earlier result unless the trip is the first. -/
theorem cond3_iff : ∀ k : Fin k0_t1_loop.trips, k0_cond3 k = 1#1 ↔ 0 < k.val := by decide +kernel
/-- The odd step fetches for the next trip unless the trip is the last. -/
theorem cond4_iff : ∀ k : Fin k0_t1_loop.trips, k0_cond4 k = 1#1 ↔ k.val + 1 < 24 := by decide +kernel

end Cert.Proof.Unpool
-- ==== Proof.Array.lean ====
/-
  The whole arrays in terms of the blocks: the result the kernel leaves (`G`), the part of an input a step reads
  (`part`), the element sets of the blocks and of what a task has written and has yet to write, and the slices the
  kernel takes, each of which is a block.
-/
module

public import proofs.«01_k».proof.Pre_in_windows
public import Idealize.ShloMosaic.Lib.ReduceAll
public import proofs.«01_k».proof.Proof.Block
public import proofs.«01_k».proof.Proof.Offsets

@[expose] public section

noncomputable section

namespace Cert.Proof.Unpool

open Cert.KernelIdeal Cert.KernelIdeal.Gen
open Idealize.ShloMosaic Idealize.ShloMosaic.ValueIdx

variable {F : FTy → Type} [FloatOps F]

/-- The input position whose window holds the position `i` of the result. -/
def pool (i : S2x96x512x512.Idx) : S2x96x256x256.Idx :=
  ix4 (i 0) (i 1) ⟨(i 2).val / 2, by have h : (i 2).val < 512 := (i 2).isLt; omega⟩
    ⟨(i 3).val / 2, by have h : (i 3).val < 512 := (i 3).isLt; omega⟩

/-- The result: a position holds the value of its window when the window's index names it, zero otherwise. -/
def G (vals : S2x96x256x256.Idx → Elt F .f32) (idx : S2x96x256x256.Idx → BitVec 32) : S2x96x512x512.Idx → Elt F .f32 :=
  fun i => if (idx (pool i)).toNat = (i 2).val * 512 + (i 3).val then vals (pool i) else zr

/-- Every index names a position of its own 2x2 window. -/
def InWin (idx : S2x96x256x256.Idx → BitVec 32) : Prop :=
  ∀ i, ∃ a b : ℕ, a < 2 ∧ b < 2 ∧ (idx i).toNat = (2 * (i 2).val + a) * 512 + (2 * (i 3).val + b)

/-- The position `p` of step `t`'s input block of task `w`. -/
def inPos (w t : ℕ) (p : S32x256.Idx) : S2x96x256x256.Idx :=
  ix4 ⟨w / 16 % 2, by omega⟩ ⟨(w % 16 * 6 + t / 8) % 96, by omega⟩
    ⟨t % 8 * 32 + (p 0).val, by have h : (p 0).val < 32 := (p 0).isLt; omega⟩ (p 1)

/-- The position `p` of step `t`'s result block of task `w`. -/
def outPos (w t : ℕ) (p : S64x512.Idx) : S2x96x512x512.Idx :=
  ix4 ⟨w / 16 % 2, by omega⟩ ⟨(w % 16 * 6 + t / 8) % 96, by omega⟩
    ⟨t % 8 * 64 + (p 0).val, by have h : (p 0).val < 64 := (p 0).isLt; omega⟩ (p 1)

/-- What step `t` of task `w` reads of an input. -/
def part {α : Type} (A : S2x96x256x256.Idx → α) (w t : ℕ) : S32x256.Idx → α := fun p => A (inPos w t p)

/-- A step's block of the result, computed from what the step reads. -/
theorem blk_part (vals : S2x96x256x256.Idx → Elt F .f32) (idx : S2x96x256x256.Idx → BitVec 32) (w t : ℕ) (p : S64x512.Idx) :
    blk (t % 8 * 64) (part vals w t) (part idx w t) p = G vals idx (outPos w t p) := by
  have h0 : (p 0).val < 64 := (p 0).isLt
  have e : pool (outPos w t p) = inPos w t (half p) := funext fun a => Fin.ext (by
    match a with
    | 0 => rfl
    | 1 => rfl
    | 2 => show (t % 8 * 64 + (p 0).val) / 2 = t % 8 * 32 + (p 0).val / 2; omega
    | 3 => rfl)
  unfold blk G part
  rw [e]; rfl

/-- The indices a step reads name positions of its block. -/
theorem inBlk_part {idx : S2x96x256x256.Idx → BitVec 32} (h : InWin idx) (w t : ℕ) : InBlk (t % 8 * 64) (part idx w t) := by
  refine ⟨by omega, fun r c => ?_⟩
  obtain ⟨a, b, ha, hb, e⟩ := h (inPos w t (ix2 r c))
  refine ⟨a, b, ha, hb, e.trans ?_⟩
  show (2 * (t % 8 * 32 + r.val) + a) * 512 + (2 * c.val + b) = _
  omega

/-! ## Element sets -/

/-- The task an input position belongs to. -/
def ownIn (i : S2x96x256x256.Idx) : ℕ := (i 0).val * 16 + (i 1).val / 6
/-- The task a result position belongs to. -/
def ownOut (i : S2x96x512x512.Idx) : ℕ := (i 0).val * 16 + (i 1).val / 6
/-- The step an input position belongs to. -/
def stepIn (i : S2x96x256x256.Idx) : ℕ := (i 1).val % 6 * 8 + (i 2).val / 32
/-- The step a result position belongs to. -/
def stepOut (i : S2x96x512x512.Idx) : ℕ := (i 1).val % 6 * 8 + (i 2).val / 64

/-- Task `w`'s part of an input. -/
def regIn (w : ℕ) : Finset S2x96x256x256.Idx := Finset.univ.filter fun i => ownIn i = w
/-- Step `t`'s block of it. -/
def blkIn (w t : ℕ) : Finset S2x96x256x256.Idx := Finset.univ.filter fun i => ownIn i = w ∧ stepIn i = t
/-- Task `w`'s part of the result. -/
def regOut (w : ℕ) : Finset S2x96x512x512.Idx := Finset.univ.filter fun i => ownOut i = w
/-- Step `t`'s block of it. -/
def blkOut (w t : ℕ) : Finset S2x96x512x512.Idx := Finset.univ.filter fun i => ownOut i = w ∧ stepOut i = t
/-- The blocks of the steps before `n`. -/
def doneOut (w n : ℕ) : Finset S2x96x512x512.Idx := Finset.univ.filter fun i => ownOut i = w ∧ stepOut i < n
/-- The blocks of the steps from `n` on. -/
def todoOut (w n : ℕ) : Finset S2x96x512x512.Idx := Finset.univ.filter fun i => ownOut i = w ∧ n ≤ stepOut i

/-- A step's input block lies in its task's part. -/
theorem blkIn_sub (w t : ℕ) : blkIn w t ⊆ regIn w := fun i hi => by
  simp only [blkIn, regIn, Finset.mem_filter, Finset.mem_univ, true_and] at hi ⊢; exact hi.1
/-- The next block is among those yet to be written. -/
theorem blkOut_sub (w t : ℕ) : blkOut w t ⊆ todoOut w t := fun i hi => by
  simp only [blkOut, todoOut, Finset.mem_filter, Finset.mem_univ, true_and] at hi ⊢; exact ⟨hi.1, hi.2.ge⟩
/-- Without it, what is left are the blocks after it. -/
theorem todo_sdiff (w t : ℕ) : todoOut w t \ blkOut w t = todoOut w (t + 1) := by
  ext i
  simp only [blkOut, todoOut, Finset.mem_filter, Finset.mem_univ, true_and, Finset.mem_sdiff]; omega
/-- A written block is not among those before it. -/
theorem done_disj (w t : ℕ) : Disjoint (doneOut w t) (blkOut w t) := Finset.disjoint_left.mpr fun i hi hj => by
  simp only [blkOut, doneOut, Finset.mem_filter, Finset.mem_univ, true_and] at hi hj; omega
/-- With it, the blocks before the next one. -/
theorem done_union (w t : ℕ) : doneOut w t ∪ blkOut w t = doneOut w (t + 1) := by
  ext i
  simp only [blkOut, doneOut, Finset.mem_filter, Finset.mem_univ, true_and, Finset.mem_union]; omega
/-- Before the first step nothing is written. -/
theorem done_none (w : ℕ) : doneOut w 0 = ∅ := by
  ext i; simp [doneOut]
/-- Before the first step the whole part is yet to be written. -/
theorem todo_all (w : ℕ) : todoOut w 0 = regOut w := by
  ext i; simp [todoOut, regOut]
/-- There are 48 steps. -/
theorem stepOut_lt (i : S2x96x512x512.Idx) : stepOut i < 48 := by
  have h : (i 2).val < 512 := (i 2).isLt
  unfold stepOut; omega
/-- After the last step the whole part is written. -/
theorem done_all48 (w : ℕ) : doneOut w 48 = regOut w := by
  ext i
  have := stepOut_lt i
  simp only [doneOut, regOut, Finset.mem_filter, Finset.mem_univ, true_and]; omega
/-- After the last step nothing is left. -/
theorem todo_none (w : ℕ) : todoOut w 48 = ∅ := by
  ext i
  have := stepOut_lt i
  simp [todoOut]; omega

/-! ## The slices the kernel takes -/

/-- The rectangle of an input block has the block's elements. -/
theorem rectIn_set {w t : ℕ} (hw : w < 32) (ht : t < 48) {off : Fin 4 → ℕ} (h : off = offs 32 w t)
    (inb : ∀ a, off a + S1x1x32x256.size a ≤ S2x96x256x256.size a) :
    (Rect.unit (s := S2x96x256x256) off S1x1x32x256.size inb).set = blkIn w t := by
  subst h
  ext i
  rw [Rect.mem_set_unit]
  have h0 : (i 0).val < 2 := (i 0).isLt
  have h1 : (i 1).val < 96 := (i 1).isLt
  have h2 : (i 2).val < 256 := (i 2).isLt
  have h3 : (i 3).val < 256 := (i 3).isLt
  have hm : i ∈ blkIn w t ↔ (i 0).val * 16 + (i 1).val / 6 = w ∧ (i 1).val % 6 * 8 + (i 2).val / 32 = t := by
    simp only [blkIn, Finset.mem_filter, Finset.mem_univ, true_and]; rfl
  rw [hm]
  constructor
  · intro H
    have H0 : w / 16 ≤ (i 0).val ∧ (i 0).val < w / 16 + 1 := H 0
    have H1 : w % 16 * 6 + t / 8 ≤ (i 1).val ∧ (i 1).val < w % 16 * 6 + t / 8 + 1 := H 1
    have H2 : t % 8 * 32 ≤ (i 2).val ∧ (i 2).val < t % 8 * 32 + 32 := H 2
    omega
  · rintro ⟨Ha, Hb⟩ a
    match a with
    | 0 => show w / 16 ≤ (i 0).val ∧ (i 0).val < w / 16 + 1; omega
    | 1 => show w % 16 * 6 + t / 8 ≤ (i 1).val ∧ (i 1).val < w % 16 * 6 + t / 8 + 1; omega
    | 2 => show t % 8 * 32 ≤ (i 2).val ∧ (i 2).val < t % 8 * 32 + 32; omega
    | 3 => show 0 ≤ (i 3).val ∧ (i 3).val < 0 + 256; omega

/-- The rectangle of a result block has the block's elements. -/
theorem rectOut_set {w t : ℕ} (hw : w < 32) (ht : t < 48) {off : Fin 4 → ℕ} (h : off = offs 64 w t)
    (inb : ∀ a, off a + S1x1x64x512.size a ≤ S2x96x512x512.size a) :
    (Rect.unit (s := S2x96x512x512) off S1x1x64x512.size inb).set = blkOut w t := by
  subst h
  ext i
  rw [Rect.mem_set_unit]
  have h0 : (i 0).val < 2 := (i 0).isLt
  have h1 : (i 1).val < 96 := (i 1).isLt
  have h2 : (i 2).val < 512 := (i 2).isLt
  have h3 : (i 3).val < 512 := (i 3).isLt
  have hm : i ∈ blkOut w t ↔ (i 0).val * 16 + (i 1).val / 6 = w ∧ (i 1).val % 6 * 8 + (i 2).val / 64 = t := by
    simp only [blkOut, Finset.mem_filter, Finset.mem_univ, true_and]; rfl
  rw [hm]
  constructor
  · intro H
    have H0 : w / 16 ≤ (i 0).val ∧ (i 0).val < w / 16 + 1 := H 0
    have H1 : w % 16 * 6 + t / 8 ≤ (i 1).val ∧ (i 1).val < w % 16 * 6 + t / 8 + 1 := H 1
    have H2 : t % 8 * 64 ≤ (i 2).val ∧ (i 2).val < t % 8 * 64 + 64 := H 2
    omega
  · rintro ⟨Ha, Hb⟩ a
    match a with
    | 0 => show w / 16 ≤ (i 0).val ∧ (i 0).val < w / 16 + 1; omega
    | 1 => show w % 16 * 6 + t / 8 ≤ (i 1).val ∧ (i 1).val < w % 16 * 6 + t / 8 + 1; omega
    | 2 => show t % 8 * 64 ≤ (i 2).val ∧ (i 2).val < t % 8 * 64 + 64; omega
    | 3 => show 0 ≤ (i 3).val ∧ (i 3).val < 0 + 512; omega

/-- A matrix index seen as an index of the array with two leading axes of size one. -/
theorem lead_two {n m : ℕ} (h : (⟨2, ![n, m]⟩ : Shape).numel = (⟨4, ![1, 1, n, m]⟩ : Shape).numel) (p : (⟨2, ![n, m]⟩ : Shape).Idx) :
    Shape.reshapeEquiv h p = ix4 (n0 := 1) (n1 := 1) (n2 := n) (n3 := m) 0 0 (p 0) (p 1) :=
  Shape.reshapeEquiv_eq_of_rowMajor h (by
    rw [Shape.rowMajor_val_four, Shape.rowMajor_val_two]
    show ((0 * _ + 0) * _ + (p 0).val) * _ + (p 1).val = (p 0).val * _ + (p 1).val
    simp)

/-- The element of an input block at a position. -/
theorem rectIn_emb {w t : ℕ} (hw : w < 32) (ht : t < 48) {off : Fin 4 → ℕ} (h : off = offs 32 w t)
    (inb : ∀ a, off a + S1x1x32x256.size a ≤ S2x96x256x256.size a) (hn : S32x256.numel = S1x1x32x256.numel) (p : S32x256.Idx) :
    (Rect.unit (s := S2x96x256x256) off S1x1x32x256.size inb).emb (Shape.reshapeEquiv (s := S1x1x32x256) hn p) = inPos w t p := by
  subst h
  rw [lead_two (n := 32) (m := 256) hn p]
  funext a; refine Fin.ext ?_
  match a with
  | 0 => show w / 16 + 1 * 0 = w / 16 % 2; omega
  | 1 => show w % 16 * 6 + t / 8 + 1 * 0 = (w % 16 * 6 + t / 8) % 96; omega
  | 2 => show t % 8 * 32 + 1 * (p 0).val = t % 8 * 32 + (p 0).val; omega
  | 3 => show 0 + 1 * (p 1).val = (p 1).val; omega

/-- The element of a result block at a position. -/
theorem rectOut_emb {w t : ℕ} (hw : w < 32) (ht : t < 48) {off : Fin 4 → ℕ} (h : off = offs 64 w t)
    (inb : ∀ a, off a + S1x1x64x512.size a ≤ S2x96x512x512.size a) (hn : S64x512.numel = S1x1x64x512.numel) (p : S64x512.Idx) :
    (Rect.unit (s := S2x96x512x512) off S1x1x64x512.size inb).emb (Shape.reshapeEquiv (s := S1x1x64x512) hn p) = outPos w t p := by
  subst h
  rw [lead_two (n := 64) (m := 512) hn p]
  funext a; refine Fin.ext ?_
  match a with
  | 0 => show w / 16 + 1 * 0 = w / 16 % 2; omega
  | 1 => show w % 16 * 6 + t / 8 + 1 * 0 = (w % 16 * 6 + t / 8) % 96; omega
  | 2 => show t % 8 * 64 + 1 * (p 0).val = t % 8 * 64 + (p 0).val; omega
  | 3 => show 0 + 1 * (p 1).val = (p 1).val; omega

/-! ## The precondition -/

/-- The precondition says that every index names a position of its own window. -/
theorem inWin_of_pre [Cert.Pre_in_windows.Facts] (vals : S2x96x256x256.Idx → Elt F .f32) (idx : S2x96x256x256.Idx → BitVec 32)
    (h : Cert.Pre_in_windows.fn (F := F) vals idx = fun _ => 1#1) : InWin idx := by
  haveI : Subsingleton Cert.Pre_in_windows.S_.Idx := ⟨fun a b => funext fun x => x.elim0⟩
  intro i
  have e := congrFun h (fun a => a.elim0)
  simp only [Cert.Pre_in_windows.fn, Cert.Pre_in_windows.fn_part1] at e
  replace e := Host.reduce_andi_all _ _ _ _ _ e i
  simp only [ori, cmpi, subi, broadcastInDim, constantI, muli, addi, iotaInDim] at e
  have h2 : (i 2).val < 256 := (i 2).isLt
  have h3 : (i 3).val < 256 := (i 3).isLt
  have key : ∀ y x v : BitVec 32, y.toNat < 256 → x.toNat < 256 →
      IntOp.ori (IntOp.ori (IntOp.ori (IntOp.cmpi .eq (v - (2#32 * y * 512#32 + 2#32 * x)) 0#32)
        (IntOp.cmpi .eq (v - (2#32 * y * 512#32 + 2#32 * x)) 1#32)) (IntOp.cmpi .eq (v - (2#32 * y * 512#32 + 2#32 * x)) 512#32))
        (IntOp.cmpi .eq (v - (2#32 * y * 512#32 + 2#32 * x)) 513#32) = 1#1 →
      ∃ a b : ℕ, a < 2 ∧ b < 2 ∧ v.toNat = (2 * y.toNat + a) * 512 + (2 * x.toNat + b) := by
    intro y x v hy hx H
    have ori_ofBool (p q : Bool) : IntOp.ori (BitVec.ofBool p) (BitVec.ofBool q) = BitVec.ofBool (p || q) := by
      cases p <;> cases q <;> decide
    have ofBool_eq_one (p : Bool) : (BitVec.ofBool p = 1#1) ↔ p = true := by cases p <;> decide
    have one (k : ℕ) (hk : k < 1024) (E : v - (2#32 * y * 512#32 + 2#32 * x) = BitVec.ofNat 32 k) :
        v.toNat = 2 * y.toNat * 512 + 2 * x.toNat + k := by
      have E' : v = BitVec.ofNat 32 k + (2#32 * y * 512#32 + 2#32 * x) := by rw [← E, BitVec.sub_add_cancel]
      have := congrArg BitVec.toNat E'
      simp only [BitVec.toNat_add, BitVec.toNat_mul, BitVec.toNat_ofNat] at this
      omega
    simp only [IntOp.cmpi, ori_ofBool, ofBool_eq_one, Bool.or_eq_true, beq_iff_eq] at H
    rcases H with ((H | H) | H) | H
    · exact ⟨0, 0, by omega, by omega, by have := one 0 (by omega) H; omega⟩
    · exact ⟨0, 1, by omega, by omega, by have := one 1 (by omega) H; omega⟩
    · exact ⟨1, 0, by omega, by omega, by have := one 512 (by omega) H; omega⟩
    · exact ⟨1, 1, by omega, by omega, by have := one 513 (by omega) H; omega⟩
  have hy : (BitVec.ofNat 32 (i 2).val).toNat = (i 2).val := by rw [BitVec.toNat_ofNat]; omega
  have hx : (BitVec.ofNat 32 (i 3).val).toNat = (i 3).val := by rw [BitVec.toNat_ofNat]; omega
  have := key (BitVec.ofNat 32 (i 2).val) (BitVec.ofNat 32 (i 3).val) (idx i) (by omega) (by omega) e
  rwa [hy, hx] at this

end Cert.Proof.Unpool
-- ==== Proof.Moves.lean ====
/-
  The copies of the kernel, by rules of their own. A part of an array is held as its elements under a view (`pts`);
  starting the copy of a step's input block into a scratch buffer turns the task's part of the input and the buffer
  into `fetching`, and the wait gives them back with the buffer holding what the step reads; starting the copy of a
  scratch buffer onto a step's result block turns them into `flushing`, and the wait gives the block back written.
-/
module

public import proofs.«01_k».proof.Proof.Steps
public import proofs.«01_k».proof.Proof.Array
public import Idealize.ShloMosaic.Lib.Transfers

@[expose] public section

noncomputable section

namespace Cert.Proof.Unpool

open Cert.KernelIdeal Cert.KernelIdeal.Gen

open Idealize.ShloMosaic
open Idealize.ShloMosaic.SparseCore (S V T)
open Idealize.ShloMosaic.SparseCore.Cfg (HIx)
open Idealize.ShloMosaic.Transfers (Flight MayWaits)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (thr : Thread nD τ)

/-- The elements `S` of the view `m`, held at share `q` with contents `f`. -/
def pts {sp : Space} {s : Shape} {e : EltTy} (m : Memref sig thr.2.kind sp s e) (S : Finset s.Idx) (q : PosShare TreeShare)
    (f : Buf (Elt F) (m.view.loc thr)) : sProp 𝕄 :=
  m.view.loc thr ↦[S.map m.view.emb]{q} f

/-- Elements held are those of a subset and the others. -/
theorem pts_split {sp : Space} {s : Shape} {e : EltTy} (m : Memref sig thr.2.kind sp s e) {S B : Finset s.Idx} (h : B ⊆ S)
    (q : PosShare TreeShare) (f : Buf (Elt F) (m.view.loc thr)) :
    (pts thr m S q f : sProp 𝕄) ⊣⊢ iprop(pts thr m B q f ∗ pts thr m (S \ B) q f) := by
  unfold pts
  rw [Finset.map_sdiff]
  exact pointsTo_split_subset (Finset.map_subset_map.mpr h)

/-- Disjoint parts with the same contents join. -/
theorem pts_union {sp : Space} {s : Shape} {e : EltTy} (m : Memref sig thr.2.kind sp s e) {S B : Finset s.Idx} (h : Disjoint S B)
    (q : PosShare TreeShare) (f : Buf (Elt F) (m.view.loc thr)) :
    iprop(pts thr m S q f ∗ pts thr m B q f) ⊢ (pts thr m (S ∪ B) q f : sProp 𝕄) := by
  unfold pts
  rw [Finset.map_union]
  exact (pointsTo_union ((Finset.disjoint_map _).mpr h)).2

/-- A step's block of an input array, as the kernel slices it. -/
abbrev inSl {κ : Kind} {e : EltTy} (A : Memref sig κ .hbm S2x96x256x256 e) (off : Fin 4 → ℕ)
    (inb : ∀ a, off a + S1x1x32x256.size a ≤ S2x96x256x256.size a) : Memref sig κ .hbm S32x256 e :=
  (A.slice (Rect.unit (s := S2x96x256x256) off S1x1x32x256.size inb) (fun _ => rfl)).squeeze S32x256 squeezes_S1x1x32x256_S32x256

/-- A step's block of the result array, as the kernel slices it. -/
abbrev outSl {κ : Kind} {e : EltTy} (A : Memref sig κ .hbm S2x96x512x512 e) (off : Fin 4 → ℕ)
    (inb : ∀ a, off a + S1x1x64x512.size a ≤ S2x96x512x512.size a) : Memref sig κ .hbm S64x512 e :=
  (A.slice (Rect.unit (s := S2x96x512x512) off S1x1x64x512.size inb) (fun _ => rfl)).squeeze S64x512 squeezes_S1x1x64x512_S64x512

/-- The elements of an input block. -/
theorem inSl_set {κ : Kind} {e : EltTy} (A : Memref sig κ .hbm S2x96x256x256 e) {w t : ℕ} (hw : w < 32) (ht : t < 48) {off : Fin 4 → ℕ}
    (h : off = offs 32 w t) (inb) : (inSl A off inb).view.set = (blkIn w t).map A.view.emb := by
  show ((A.view.slice _).reshape S32x256 _).set = _
  rw [View.set_reshape, View.set_slice]
  exact congrArg (Finset.map A.view.emb) (rectIn_set hw ht h inb)

/-- The elements of a result block. -/
theorem outSl_set {κ : Kind} {e : EltTy} (A : Memref sig κ .hbm S2x96x512x512 e) {w t : ℕ} (hw : w < 32) (ht : t < 48) {off : Fin 4 → ℕ}
    (h : off = offs 64 w t) (inb) : (outSl A off inb).view.set = (blkOut w t).map A.view.emb := by
  show ((A.view.slice _).reshape S64x512 _).set = _
  rw [View.set_reshape, View.set_slice]
  exact congrArg (Finset.map A.view.emb) (rectOut_set hw ht h inb)

/-- An input block reads what its step reads. -/
theorem inSl_read {κ : Kind} {e : EltTy} (A : Memref sig κ .hbm S2x96x256x256 e) {w t : ℕ} (hw : w < 32) (ht : t < 48) {off : Fin 4 → ℕ}
    (h : off = offs 32 w t) (inb) (f) : (inSl A off inb).view.read (Elt F) f = part (A.view.read (Elt F) f) w t := by
  funext p
  exact congrArg (A.view.read (Elt F) f) (rectIn_emb hw ht h inb squeezes_S1x1x32x256_S32x256.numel_eq p)

/-- A result block reads the array at its positions. -/
theorem outSl_read {κ : Kind} {e : EltTy} (A : Memref sig κ .hbm S2x96x512x512 e) {w t : ℕ} (hw : w < 32) (ht : t < 48) {off : Fin 4 → ℕ}
    (h : off = offs 64 w t) (inb) (f) : (outSl A off inb).view.read (Elt F) f = fun p => A.view.read (Elt F) f (outPos w t p) := by
  funext p
  exact congrArg (A.view.read (Elt F) f) (rectOut_emb hw ht h inb squeezes_S1x1x64x512_S64x512.numel_eq p)

/-- The copy of step `t`'s block of the input `A` into `dst` is under way. -/
def fetching {e : EltTy} (A : Memref sig thr.2.kind .hbm S2x96x256x256 e) (dst : Memref sig thr.2.kind .vmem S32x256 e) (sem : DmaSem sig)
    (w t : ℕ) (q : PosShare TreeShare) (f : Buf (Elt F) (A.view.loc thr)) : sProp 𝕄 :=
  iprop(Flight countersEmb thr (.dma sem) (default : HIx 1) dst.view.dmaCredit
      iprop(holds thr dst (part (A.view.read (Elt F) f) w t) ∗ pts thr A (blkIn w t) q f)
    ∗ pts thr A (regIn w \ blkIn w t) q f)

/-- The copy of `src` onto step `t`'s block of the result `A` is under way. -/
def flushing (A : Memref sig thr.2.kind .hbm S2x96x512x512 .f32) (src : Memref sig thr.2.kind .vmem S64x512 .f32) (sem : DmaSem sig)
    (w t : ℕ) (g : Buf (Elt F) (A.view.loc thr)) : sProp 𝕄 :=
  iprop(Flight countersEmb thr (.dma sem) (default : HIx 1) (outSl A ![0, 0, 0, 0] (by decide)).view.dmaCredit
      iprop(pts thr A (blkOut w t) fullShare g ∗ ∃ x, holds thr src x))

/-- The copy of an input block starts. -/
theorem wp_fetch {α : Type} {Q : α → sProp 𝕄} {e : EltTy} {A : Memref sig thr.2.kind .hbm S2x96x256x256 e}
    {dst : Memref sig thr.2.kind .vmem S32x256 e} {sem : DmaSem sig} {off : Fin 4 → ℕ} {inb} {hsrc hdst hsem}
    {w t : ℕ} (hw : w < 32) (ht : t < 48) (h : off = offs 32 w t)
    {q : PosShare TreeShare} {f : Buf (Elt F) (A.view.loc thr)} {k : PUnit → Prog (TpuEff nD τ sig (Elt F) Λ₀ thr.2) α} :
    (iprop(pts thr A (regIn w) q f ∗ (∃ g, holds thr dst g) ∗ semVal (thr, SemLoc.dma sem) 0) : sProp 𝕄)
      ⊢ iprop((fetching thr A dst sem w t q f -∗ wp frame (wpE (defs₀ (F := F)) 𝒱₀ thr none) Set.univ (k ⟨⟩) Q)
        -∗ wp frame (wpE (defs₀ (F := F)) 𝒱₀ thr none) Set.univ
            (.op (.enqueueDma (inSl A off inb) (.here dst) (.dma sem) hsrc hdst hsem) k) Q) := by
  iintro ⟨HA, ⟨%g, HD⟩, Hs⟩ Hk
  unfold holds
  icases HD with ⟨%fd, -, HD⟩
  ihave HA := (pts_split thr A (blkIn_sub w t) q f).1 $$ HA
  icases HA with ⟨HA, HR⟩
  have hset := inSl_set A hw ht h inb
  ihave HA := (Entails.of_eq (show (pts thr A (blkIn w t) q f : sProp 𝕄)
    = ((inSl A off inb).view.loc thr ↦[(inSl A off inb).view.set]{q} f) by rw [hset]; rfl)) $$ HA
  iapply (Transfers.wp_dmaLocal countersEmb 𝒱₀ thr none (src := inSl A off inb) (via := .same) (dst := dst) (sm := .dma sem)
    (q := q) (fs := f) (Sd := dst.view.set) (fd := fd) (default : HIx 1) dst.view.dmaCredit rfl (View.dmaCredit_pos _ (by decide)) (Finset.Subset.refl _)) $$ [HA HD Hs]
  · isplitl [HA]; · iexact HA
    isplitl [HD]; · iexact HD
    iexact Hs
  iintro Hf
  iapply Hk
  unfold fetching
  isplitl [Hf]
  · iapply (Transfers.Flight_mono countersEmb thr ?_) $$ Hf
    iintro ⟨HD, HA⟩
    isplitl [HD]
    · unfold holds
      iexists _
      isplitr; rotate_left; · iexact HD
      ipureintro
      rw [View.read_write_univ]
      exact inSl_read A hw ht h inb f
    · iapply (Entails.of_eq (show ((inSl A off inb).view.loc thr ↦[(inSl A off inb).view.set]{q} f : sProp 𝕄)
        = pts thr A (blkIn w t) q f by rw [hset]; rfl))
      iexact HA
  · iexact HR

/-- The wait for the copy of an input block. -/
theorem wp_fetched {α : Type} {Q : α → sProp 𝕄} {e : EltTy} {A : Memref sig thr.2.kind .hbm S2x96x256x256 e}
    {dst : Memref sig thr.2.kind .vmem S32x256 e} {sem : DmaSem sig} {srcw : Memref sig thr.2.kind .hbm S32x256 e} {hsrc hdst}
    {w t : ℕ} {q : PosShare TreeShare} {f : Buf (Elt F) (A.view.loc thr)} {k : PUnit → Prog (TpuEff nD τ sig (Elt F) Λ₀ thr.2) α}
    {O : CellTallies nD τ sig (HIx 1)} {W : Waits sig (HIx 1)} :
    (iprop(fetching thr A dst sem w t q f ∗ owes thr O W ∗ MayWaits thr (default : HIx 1) O) : sProp 𝕄)
      ⊢ iprop((iprop((holds thr dst (part (A.view.read (Elt F) f) w t) ∗ pts thr A (regIn w) q f ∗ semVal (thr, SemLoc.dma sem) 0)
            ∗ owes thr O (insert (SemLoc.dma sem, (default : HIx 1)) W))
          -∗ wp frame (wpE (defs₀ (F := F)) 𝒱₀ thr none) Set.univ (k ⟨⟩) Q)
        -∗ wp frame (wpE (defs₀ (F := F)) 𝒱₀ thr none) Set.univ (.op (.waitDma2 sem srcw dst hsrc hdst) k) Q) := by
  unfold fetching
  iintro ⟨⟨Hf, HR⟩, HO, Hm⟩ Hk
  iapply (Transfers.wp_waitLocalO countersEmb 𝒱₀ thr none (default : HIx 1) (rfl : dst.view.dmaCredit = _)) $$ [Hf HO Hm]
  · isplitl [Hf]; · iexact Hf
    isplitl [HO]; · iexact HO
    iapply (Transfers.MayWaits.elim (SemLoc.dma sem)) $$ Hm
  iintro ⟨⟨HD, HA⟩, Hs, HO⟩
  iapply Hk
  isplitr [HO]
  · isplitl [HD]; · iexact HD
    isplitl [HA HR]
    · iapply (pts_split thr A (blkIn_sub w t) q f).2
      isplitl [HA] <;> iassumption
    iexact Hs
  iexact HO

/-- The copy onto a result block starts. -/
theorem wp_flush {α : Type} {Q : α → sProp 𝕄} {A : Memref sig thr.2.kind .hbm S2x96x512x512 .f32}
    {src : Memref sig thr.2.kind .vmem S64x512 .f32} {sem : DmaSem sig} {off : Fin 4 → ℕ} {inb} {hsrc hdst hsem}
    {w t : ℕ} (hw : w < 32) (ht : t < 48) (h : off = offs 64 w t)
    {f g : Buf (Elt F) (A.view.loc thr)} {x : S64x512.Idx → Elt F .f32} (hx : x = fun p => A.view.read (Elt F) g (outPos w t p))
    {k : PUnit → Prog (TpuEff nD τ sig (Elt F) Λ₀ thr.2) α} :
    (iprop(pts thr A (todoOut w t) fullShare f ∗ holds thr src x ∗ semVal (thr, SemLoc.dma sem) 0) : sProp 𝕄)
      ⊢ iprop((iprop(flushing thr A src sem w t g ∗ pts thr A (todoOut w (t + 1)) fullShare f)
          -∗ wp frame (wpE (defs₀ (F := F)) 𝒱₀ thr none) Set.univ (k ⟨⟩) Q)
        -∗ wp frame (wpE (defs₀ (F := F)) 𝒱₀ thr none) Set.univ
            (.op (.enqueueDma src (.here (outSl A off inb)) (.dma sem) hsrc hdst hsem) k) Q) := by
  iintro ⟨HA, HD, Hs⟩ Hk
  unfold holds
  icases HD with ⟨%fd, %hfd, HD⟩
  ihave HA := (pts_split thr A (blkOut_sub w t) fullShare f).1 $$ HA
  icases HA with ⟨HA, HR⟩
  rw [todo_sdiff]
  have hset := outSl_set A hw ht h inb
  ihave HA := (Entails.of_eq (show (pts thr A (blkOut w t) fullShare f : sProp 𝕄)
    = ((outSl A off inb).view.loc thr ↦[(outSl A off inb).view.set]{fullShare} f) by rw [hset]; rfl)) $$ HA
  have hres : ((outSl A off inb).view.loc thr ↦[(outSl A off inb).view.set]{fullShare}
      (outSl A off inb).view.write (Elt F) f ((ReadAs.same).apply (src.view.read (Elt F) fd)) Finset.univ : sProp 𝕄)
      = pts thr A (blkOut w t) fullShare g := by
    have e : (ReadAs.same).apply (src.view.read (Elt F) fd) = (outSl A off inb).view.read (Elt F) g := by
      rw [outSl_read A hw ht h inb g, ← hx, ← hfd]
    rw [e]
    refine Eq.trans (b := ((outSl A off inb).view.loc thr ↦[(outSl A off inb).view.set]{fullShare} g)) (pointsTo_congr fun i hi => ?_) (by rw [hset]; rfl)
    obtain ⟨y, -, rfl⟩ := Finset.mem_map.mp hi
    rw [View.write_emb_of_mem _ _ (Finset.mem_univ _)]
    simp [View.read_apply]
  iapply (Transfers.wp_dmaLocal countersEmb 𝒱₀ thr none (src := src) (via := .same) (dst := outSl A off inb) (sm := .dma sem)
    (q := fullShare) (fs := fd) (Sd := (outSl A off inb).view.set) (fd := f) (default : HIx 1)
    (outSl A ![0, 0, 0, 0] (by decide)).view.dmaCredit rfl (View.dmaCredit_pos _ (by decide)) (Finset.Subset.refl _)) $$ [HA HD Hs]
  · isplitl [HD]; · iexact HD
    isplitl [HA]; · iexact HA
    iexact Hs
  iintro Hf
  iapply Hk
  unfold flushing
  isplitl [Hf]
  · iapply (Transfers.Flight_mono countersEmb thr ?_) $$ Hf
    iintro ⟨HA, HD⟩
    isplitl [HA]
    · iapply (Entails.of_eq hres) $$ HA
    · unfold holds
      iexists _; iexists fd
      isplitr; · ipureintro; rfl
      iexact HD
  · iexact HR

/-- The wait for the copy onto a result block. -/
theorem wp_flushed {α : Type} {Q : α → sProp 𝕄} {A : Memref sig thr.2.kind .hbm S2x96x512x512 .f32}
    {src : Memref sig thr.2.kind .vmem S64x512 .f32} {sem : DmaSem sig} {off : Fin 4 → ℕ} {inb} {hsrc hdst}
    {w t : ℕ} {g : Buf (Elt F) (A.view.loc thr)} {k : PUnit → Prog (TpuEff nD τ sig (Elt F) Λ₀ thr.2) α}
    {O : CellTallies nD τ sig (HIx 1)} {W : Waits sig (HIx 1)} :
    (iprop(flushing thr A src sem w t g ∗ pts thr A (doneOut w t) fullShare g ∗ owes thr O W ∗ MayWaits thr (default : HIx 1) O) : sProp 𝕄)
      ⊢ iprop((iprop(((∃ x, holds thr src x) ∗ semVal (thr, SemLoc.dma sem) 0) ∗ pts thr A (doneOut w (t + 1)) fullShare g
            ∗ owes thr O (insert (SemLoc.dma sem, (default : HIx 1)) W))
          -∗ wp frame (wpE (defs₀ (F := F)) 𝒱₀ thr none) Set.univ (k ⟨⟩) Q)
        -∗ wp frame (wpE (defs₀ (F := F)) 𝒱₀ thr none) Set.univ (.op (.waitDma2 sem src (outSl A off inb) hsrc hdst) k) Q) := by
  unfold flushing
  iintro ⟨Hf, HG, HO, Hm⟩ Hk
  iapply (Transfers.wp_waitLocalO countersEmb 𝒱₀ thr none (default : HIx 1) (rfl : (outSl A off inb).view.dmaCredit = _)) $$ [Hf HO Hm]
  · isplitl [Hf]; · iexact Hf
    isplitl [HO]; · iexact HO
    iapply (Transfers.MayWaits.elim (SemLoc.dma sem)) $$ Hm
  iintro ⟨⟨HA, HD⟩, Hs, HO⟩
  iapply Hk
  isplitl [HD Hs]
  · isplitl [HD] <;> iassumption
  isplitl [HG HA]
  · rw [← done_union]
    iapply (pts_union thr A (done_disj w t) fullShare g)
    isplitl [HG] <;> iassumption
  iexact HO

end Cert.Proof.Unpool
-- ==== Proof.Trip.lean ====
/-
  One trip of each inner loop: the trip zeroes two output rows and scatters one input row into them, so the buffer goes
  from `r` trips done to `r + 1`. The two loops have the same text over the two slots' buffers.
-/
module

public import proofs.«01_k».proof.Proof.Steps

@[expose] public section

noncomputable section

namespace Cert.Proof.Unpool

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The core and the subcore a grid point runs on. -/
abbrev cV (L : grid0.Coords) : Fin τ.nSC := (L 0).castLE hcore0
abbrev jV (L : grid0.Coords) : Fin τ.nSub := (L 1).castLE hsub0

variable (d : Fin nD) (L : grid0.Coords)
  (arg2 : Memref sig .scVector .hbm S2x96x256x256 .f32) (harg2 : arg2.IsWhole) (arg3 : Memref sig .scVector .hbm S2x96x256x256 .i32) (harg3 : arg3.IsWhole)
  (arg4 : Memref sig .scVector .hbm S2x96x512x512 .f32) (harg4 : arg4.IsWhole)
  (arg5 : Memref sig .scVector .vmem S32x256 .f32) (harg5 : arg5.IsWhole) (arg6 : Memref sig .scVector .vmem S32x256 .f32) (harg6 : arg6.IsWhole)
  (arg7 : Memref sig .scVector .vmem S32x256 .i32) (harg7 : arg7.IsWhole) (arg8 : Memref sig .scVector .vmem S32x256 .i32) (harg8 : arg8.IsWhole)
  (arg9 : Memref sig .scVector .vmem S64x512 .f32) (harg9 : arg9.IsWhole) (arg10 : Memref sig .scVector .vmem S64x512 .f32) (harg10 : arg10.IsWhole)
  (arg11 arg12 arg13 arg14 arg15 arg16 : DmaSems sig S_)

/-- The first output row of a block, as the kernel computes it from the trip `k` and the slot `b`. -/
def row0W (k : Fin k0_t1_loop.trips) (b : BitVec 32) : BitVec 32 :=
  Scalar.muli (Scalar.muli (Scalar.andi (Scalar.addi (Scalar.muli (Scf.iv 0#32 1#32 k) 2#32) b) 7#32) 2#32) 32#32

set_option maxHeartbeats 8000000 in
/-- One trip of the inner loop over the first slot. -/
theorem trip0 (k0_t1 : Fin k0_t1_loop.trips) (r : Fin k0_t2_loop.trips) {row0 : ℕ} {vb : S32x256.Idx → Elt F .f32}
    {ib : S32x256.Idx → BitVec 32} (hib : InBlk row0 ib) (hw : (row0W k0_t1 0#32).toNat = row0) (f : S64x512.Idx → Elt F .f32)
    (v4 : BitVec 32) (Q : Unit → sProp 𝕄) :
    iprop(holds (V d (cV L) (jV L)) arg9 (done row0 vb ib r.val f) ∗ holds (V d (cV L) (jV L)) arg5 vb ∗ holds (V d (cV L) (jV L)) arg7 ib)
      ⊢ iprop((iprop(holds (V d (cV L) (jV L)) arg9 (done row0 vb ib (r.val + 1) f) ∗ holds (V d (cV L) (jV L)) arg5 vb ∗ holds (V d (cV L) (jV L)) arg7 ib) -∗ Q ⟨⟩)
        -∗ wp frame (wpE (defs₀ (F := F)) 𝒱₀ (V d (cV L) (jV L)) none) Set.univ
          (k0_t2_body (F := F) L arg2 harg2 arg3 harg3 arg4 harg4 arg5 harg5 arg6 harg6 arg7 harg7 arg8 harg8 arg9 harg9 arg10 harg10 arg11 arg12 arg13 arg14 arg15 arg16 v4 0#32 1#32 k0_t1 (row0W k0_t1 0#32) r ⟨⟩) Q) := by
  have hr : r.val < 32 := lt_of_lt_of_le r.isLt k0_t2_abs.2.1
  iintro ⟨Ho, Hv, Hi⟩ Hk
  sl_respell [k0_t2_body]
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  sl_respell [k0_part1_skel, k0_part2_skel, k0_part3_skel, k0_part4_skel, k0_part5_skel, k0_part6_skel, k0_part7_skel, k0_part8_skel, k0_part9_skel, k0_part10_skel]
  simp only [Prog.lift, Prog.bind_op, Prog.bind_ret, Prog.pure_eq_ret, Prog.bind_assoc]
  ihave Ho := (Entails.of_eq (congrArg (holds (V d (cV L) (jV L)) arg9) (zeroed_zero (done row0 vb ib r.val f) r.val).symm)) $$ Ho
  iterate 64
    iapply (wp_zero (V d (cV L) (jV L))) $$ Ho
    isplitr
    · ipureintro; exact ⟨rfl, rfl⟩
    iintro Ho
  ihave Ho := (Entails.of_eq (congrArg (holds (V d (cV L) (jV L)) arg9) (zeroed_all row0 vb ib (done row0 vb ib r.val f) r.val))) $$ Ho
  iterate 16
    iapply (wp_ld (V d (cV L) (jV L))) $$ Hv
    iintro Hv
    iapply (wp_ld (V d (cV L) (jV L))) $$ Hi
    iintro Hi
    iapply (wp_scat (V d (cV L) (jV L)) hib) $$ Ho
    isplitr
    · ipureintro; exact ⟨row0W k0_t1 0#32, _, hw, hr, by omega, rfl, rfl, rfl⟩
    iintro Ho
  ihave Ho := (Entails.of_eq (congrArg (holds (V d (cV L) (jV L)) arg9) (scat_all row0 vb ib f r.val))) $$ Ho
  rw [wp_ret]; imodintro
  iapply Hk
  isplitl [Ho]; · iexact Ho
  isplitl [Hv] <;> iassumption

set_option maxHeartbeats 8000000 in
/-- One trip of the inner loop over the second slot. -/
theorem trip1 (k0_t1 : Fin k0_t1_loop.trips) (r : Fin k0_t3_loop.trips) {row0 : ℕ} {vb : S32x256.Idx → Elt F .f32}
    {ib : S32x256.Idx → BitVec 32} (hib : InBlk row0 ib) (hw : (row0W k0_t1 1#32).toNat = row0) (f : S64x512.Idx → Elt F .f32)
    (v4 v37 : BitVec 32) (Q : Unit → sProp 𝕄) :
    iprop(holds (V d (cV L) (jV L)) arg10 (done row0 vb ib r.val f) ∗ holds (V d (cV L) (jV L)) arg6 vb ∗ holds (V d (cV L) (jV L)) arg8 ib)
      ⊢ iprop((iprop(holds (V d (cV L) (jV L)) arg10 (done row0 vb ib (r.val + 1) f) ∗ holds (V d (cV L) (jV L)) arg6 vb ∗ holds (V d (cV L) (jV L)) arg8 ib) -∗ Q ⟨⟩)
        -∗ wp frame (wpE (defs₀ (F := F)) 𝒱₀ (V d (cV L) (jV L)) none) Set.univ
          (k0_t3_body (F := F) L arg2 harg2 arg3 harg3 arg4 harg4 arg5 harg5 arg6 harg6 arg7 harg7 arg8 harg8 arg9 harg9 arg10 harg10 arg11 arg12 arg13 arg14 arg15 arg16 v4 k0_t1 (Scf.iv 0#32 1#32 k0_t1) v37 (row0W k0_t1 1#32) r ⟨⟩) Q) := by
  have hr : r.val < 32 := lt_of_lt_of_le r.isLt k0_t3_abs.2.1
  iintro ⟨Ho, Hv, Hi⟩ Hk
  sl_respell [k0_t3_body]
  simp only [k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
  sl_respell [k0_part11_skel, k0_part12_skel, k0_part13_skel, k0_part14_skel, k0_part15_skel, k0_part16_skel, k0_part17_skel, k0_part18_skel, k0_part19_skel, k0_part20_skel]
  simp only [Prog.lift, Prog.bind_op, Prog.bind_ret, Prog.pure_eq_ret, Prog.bind_assoc]
  ihave Ho := (Entails.of_eq (congrArg (holds (V d (cV L) (jV L)) arg10) (zeroed_zero (done row0 vb ib r.val f) r.val).symm)) $$ Ho
  iterate 64
    iapply (wp_zero (V d (cV L) (jV L))) $$ Ho
    isplitr
    · ipureintro; exact ⟨rfl, rfl⟩
    iintro Ho
  ihave Ho := (Entails.of_eq (congrArg (holds (V d (cV L) (jV L)) arg10) (zeroed_all row0 vb ib (done row0 vb ib r.val f) r.val))) $$ Ho
  iterate 16
    iapply (wp_ld (V d (cV L) (jV L))) $$ Hv
    iintro Hv
    iapply (wp_ld (V d (cV L) (jV L))) $$ Hi
    iintro Hi
    iapply (wp_scat (V d (cV L) (jV L)) hib) $$ Ho
    isplitr
    · ipureintro; exact ⟨row0W k0_t1 1#32, _, hw, hr, by omega, rfl, rfl, rfl⟩
    iintro Ho
  ihave Ho := (Entails.of_eq (congrArg (holds (V d (cV L) (jV L)) arg10) (scat_all row0 vb ib f r.val))) $$ Ho
  rw [wp_ret]; imodintro
  iapply Hk
  isplitl [Ho]; · iexact Ho
  isplitl [Hv] <;> iassumption

end Cert.Proof.Unpool
-- ==== Proof.Loops.lean ====
/-
  The inner loops whole: over a step's input buffers, each leaves the step's block of the result in its buffer.
-/
module

public import proofs.«01_k».proof.Proof.Trip
public import proofs.«01_k».proof.Proof.Offsets

@[expose] public section

noncomputable section

namespace Cert.Proof.Unpool

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Fin nD) (L : grid0.Coords)
  (arg2 : Memref sig .scVector .hbm S2x96x256x256 .f32) (harg2 : arg2.IsWhole) (arg3 : Memref sig .scVector .hbm S2x96x256x256 .i32) (harg3 : arg3.IsWhole)
  (arg4 : Memref sig .scVector .hbm S2x96x512x512 .f32) (harg4 : arg4.IsWhole)
  (arg5 : Memref sig .scVector .vmem S32x256 .f32) (harg5 : arg5.IsWhole) (arg6 : Memref sig .scVector .vmem S32x256 .f32) (harg6 : arg6.IsWhole)
  (arg7 : Memref sig .scVector .vmem S32x256 .i32) (harg7 : arg7.IsWhole) (arg8 : Memref sig .scVector .vmem S32x256 .i32) (harg8 : arg8.IsWhole)
  (arg9 : Memref sig .scVector .vmem S64x512 .f32) (harg9 : arg9.IsWhole) (arg10 : Memref sig .scVector .vmem S64x512 .f32) (harg10 : arg10.IsWhole)
  (arg11 arg12 arg13 arg14 arg15 arg16 : DmaSems sig S_)

/-- Before trip `r` of an inner loop: the rows of the trips before it are the block's, the inputs are as they were. -/
def rowsDone (thr : Thread nD τ) (o : Memref sig thr.2.kind .vmem S64x512 .f32) (v : Memref sig thr.2.kind .vmem S32x256 .f32)
    (x : Memref sig thr.2.kind .vmem S32x256 .i32) (row0 : ℕ) (vb : S32x256.Idx → Elt F .f32) (ib : S32x256.Idx → BitVec 32)
    (f : S64x512.Idx → Elt F .f32) (r : ℕ) (_ : Unit) : sProp 𝕄 :=
  iprop(holds thr o (done row0 vb ib r f) ∗ holds thr v vb ∗ holds thr x ib)

/-- The inner loop over the first slot. -/
theorem loop0 {α : Type} (k0_t1 : Fin k0_t1_loop.trips) {row0 : ℕ} {vb : S32x256.Idx → Elt F .f32}
    {ib : S32x256.Idx → BitVec 32} (hib : InBlk row0 ib) (hw : (row0W k0_t1 0#32).toNat = row0)
    (v4 : BitVec 32) {Q : α → sProp 𝕄} {K : Unit → Prog (TpuEff nD τ sig (Elt F) Λ₀ (V d (cV L) (jV L)).2) α} :
    iprop((∃ f, holds (V d (cV L) (jV L)) arg9 f) ∗ holds (V d (cV L) (jV L)) arg5 vb ∗ holds (V d (cV L) (jV L)) arg7 ib)
      ⊢ iprop((iprop(holds (V d (cV L) (jV L)) arg9 (blk row0 vb ib) ∗ holds (V d (cV L) (jV L)) arg5 vb ∗ holds (V d (cV L) (jV L)) arg7 ib)
          -∗ wp frame (wpE (defs₀ (F := F)) 𝒱₀ (V d (cV L) (jV L)) none) Set.univ (K ⟨⟩) Q)
        -∗ wp frame (wpE (defs₀ (F := F)) 𝒱₀ (V d (cV L) (jV L)) none) Set.univ
          (Scf.Loop.for k0_t2_loop k0_t2_ok ⟨⟩ (k0_t2_body (F := F) L arg2 harg2 arg3 harg3 arg4 harg4 arg5 harg5 arg6 harg6 arg7 harg7 arg8 harg8 arg9 harg9 arg10 harg10 arg11 arg12 arg13 arg14 arg15 arg16 v4 0#32 1#32 k0_t1 (row0W k0_t1 0#32)) >>= K) Q) := by
  iintro ⟨⟨%f, Ho⟩, Hv, Hi⟩ Hk
  sl_for (rowsDone (V d (cV L) (jV L)) arg9 arg5 arg7 row0 vb ib f) $$ [Ho Hv Hi]
  · intro r acc
    unfold rowsDone
    iintro H
    iapply (trip0 d L arg2 harg2 arg3 harg3 arg4 harg4 arg5 harg5 arg6 harg6 arg7 harg7 arg8 harg8 arg9 harg9 arg10 harg10 arg11 arg12 arg13 arg14 arg15 arg16 k0_t1 r hib hw f v4) $$ H
    iintro H
    iexact H
  · unfold rowsDone
    rw [done_zero]
    isplitl [Ho]; · iexact Ho
    isplitl [Hv] <;> iassumption
  iintro %acc H
  unfold rowsDone
  rw [show Scf.trips k0_t2_loop.lb k0_t2_loop.ub k0_t2_loop.st = 32 from trips2, done_all]
  iapply Hk $$ H

/-- The inner loop over the second slot. -/
theorem loop1 {α : Type} (k0_t1 : Fin k0_t1_loop.trips) {row0 : ℕ} {vb : S32x256.Idx → Elt F .f32}
    {ib : S32x256.Idx → BitVec 32} (hib : InBlk row0 ib) (hw : (row0W k0_t1 1#32).toNat = row0)
    (v4 v37 : BitVec 32) {Q : α → sProp 𝕄} {K : Unit → Prog (TpuEff nD τ sig (Elt F) Λ₀ (V d (cV L) (jV L)).2) α} :
    iprop((∃ f, holds (V d (cV L) (jV L)) arg10 f) ∗ holds (V d (cV L) (jV L)) arg6 vb ∗ holds (V d (cV L) (jV L)) arg8 ib)
      ⊢ iprop((iprop(holds (V d (cV L) (jV L)) arg10 (blk row0 vb ib) ∗ holds (V d (cV L) (jV L)) arg6 vb ∗ holds (V d (cV L) (jV L)) arg8 ib)
          -∗ wp frame (wpE (defs₀ (F := F)) 𝒱₀ (V d (cV L) (jV L)) none) Set.univ (K ⟨⟩) Q)
        -∗ wp frame (wpE (defs₀ (F := F)) 𝒱₀ (V d (cV L) (jV L)) none) Set.univ
          (Scf.Loop.for k0_t3_loop k0_t3_ok ⟨⟩ (k0_t3_body (F := F) L arg2 harg2 arg3 harg3 arg4 harg4 arg5 harg5 arg6 harg6 arg7 harg7 arg8 harg8 arg9 harg9 arg10 harg10 arg11 arg12 arg13 arg14 arg15 arg16 v4 k0_t1 (Scf.iv 0#32 1#32 k0_t1) v37 (row0W k0_t1 1#32)) >>= K) Q) := by
  iintro ⟨⟨%f, Ho⟩, Hv, Hi⟩ Hk
  sl_for (rowsDone (V d (cV L) (jV L)) arg10 arg6 arg8 row0 vb ib f) $$ [Ho Hv Hi]
  · intro r acc
    unfold rowsDone
    iintro H
    iapply (trip1 d L arg2 harg2 arg3 harg3 arg4 harg4 arg5 harg5 arg6 harg6 arg7 harg7 arg8 harg8 arg9 harg9 arg10 harg10 arg11 arg12 arg13 arg14 arg15 arg16 k0_t1 r hib hw f v4 v37) $$ H
    iintro H
    iexact H
  · unfold rowsDone
    rw [done_zero]
    isplitl [Ho]; · iexact Ho
    isplitl [Hv] <;> iassumption
  iintro %acc H
  unfold rowsDone
  rw [show Scf.trips k0_t3_loop.lb k0_t3_loop.ub k0_t3_loop.st = 32 from trips3, done_all]
  iapply Hk $$ H

/-- The first row of an even step's block. -/
theorem row0_even : ∀ k : Fin k0_t1_loop.trips, (row0W k 0#32).toNat = 2 * k.val % 8 * 64 := by decide +kernel
/-- The first row of an odd step's block. -/
theorem row0_odd : ∀ k : Fin k0_t1_loop.trips, (row0W k 1#32).toNat = (2 * k.val + 1) % 8 * 64 := by decide +kernel

end Cert.Proof.Unpool
-- ==== Proof.Pair.lean ====
/-
  One trip of the loop over pairs of steps. Between trips each slot is either idle or has its copies under way
  (`inSlot`, `outSlot`), the blocks whose copies were waited for hold the result, and those not yet begun are as they
  were (`Inv`).
-/
module

public import proofs.«01_k».proof.Proof.Moves
public import proofs.«01_k».proof.Proof.Loops

@[expose] public section

noncomputable section

namespace Cert.Proof.Unpool

open Cert.KernelIdeal Cert.KernelIdeal.Gen

open Idealize.ShloMosaic
open Idealize.ShloMosaic.SparseCore (S V T)
open Idealize.ShloMosaic.SparseCore.Cfg (HIx)
open Idealize.ShloMosaic.Transfers (Flight MayWaits)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Slots

variable (thr : Thread nD τ)

/-- An input slot: the copy of step `t`'s block is under way, or, past the last step, the slot is idle. -/
def inSlot {e : EltTy} (A : Memref sig thr.2.kind .hbm S2x96x256x256 e) (dst : Memref sig thr.2.kind .vmem S32x256 e) (sem : DmaSem sig)
    (w t : ℕ) (q : PosShare TreeShare) (f : Buf (Elt F) (A.view.loc thr)) : sProp 𝕄 :=
  if t < 48 then fetching thr A dst sem w t q f
  else iprop(pts thr A (regIn w) q f ∗ (∃ g, holds thr dst g) ∗ semVal (thr, SemLoc.dma sem) 0)

/-- An output slot before trip `k`: idle before the first, the copy of step `t`'s block under way after it. -/
def outSlot (A : Memref sig thr.2.kind .hbm S2x96x512x512 .f32) (src : Memref sig thr.2.kind .vmem S64x512 .f32) (sem : DmaSem sig)
    (w k t : ℕ) (g : Buf (Elt F) (A.view.loc thr)) : sProp 𝕄 :=
  if 0 < k then flushing thr A src sem w t g
  else iprop((∃ x, holds thr src x) ∗ semVal (thr, SemLoc.dma sem) 0)

/-- What the thread owes, after waits of its own beside those of `W`. -/
def owing (O : CellTallies nD τ sig (HIx 1)) (W : Waits sig (HIx 1)) : sProp 𝕄 :=
  iprop(∃ W', ⌜∀ p ∈ W', p ∈ W ∨ p.2 = none⌝ ∗ owes thr O W')

variable {O : CellTallies nD τ sig (HIx 1)} {W : Waits sig (HIx 1)}

/-- One more wait of the thread's own leaves it owing the same. -/
theorem owing_insert {sm : SemLoc sig} {W' : Waits sig (HIx 1)} (h : ∀ p ∈ W', p ∈ W ∨ p.2 = none) :
    (owes thr O (insert (sm, (default : HIx 1)) W') : sProp 𝕄) ⊢ owing thr O W := by
  unfold owing
  iintro H
  iexists _
  isplitr; rotate_left; · iexact H
  ipureintro
  intro p hp
  rcases Finset.mem_insert.mp hp with rfl | hp
  · exact .inr rfl
  · exact h p hp

/-- The wait for both inputs of a step. -/
theorem wp_inputs {α : Type} {Q : α → sProp 𝕄} {A : Memref sig thr.2.kind .hbm S2x96x256x256 .f32} {B : Memref sig thr.2.kind .hbm S2x96x256x256 .i32}
    {da : Memref sig thr.2.kind .vmem S32x256 .f32} {db : Memref sig thr.2.kind .vmem S32x256 .i32} {sa sb : DmaSem sig}
    {srca : Memref sig thr.2.kind .hbm S32x256 .f32} {srcb : Memref sig thr.2.kind .hbm S32x256 .i32} {h1 h2 h3 h4}
    {w t : ℕ} (ht : t < 48) {q : PosShare TreeShare} {fa : Buf (Elt F) (A.view.loc thr)} {fb : Buf (Elt F) (B.view.loc thr)}
    {k : PUnit → Prog (TpuEff nD τ sig (Elt F) Λ₀ thr.2) α} :
    (iprop((inSlot thr A da sa w t q fa ∗ inSlot thr B db sb w t q fb) ∗ owing thr O W ∗ MayWaits thr (default : HIx 1) O) : sProp 𝕄)
      ⊢ iprop((iprop((holds thr da (part (A.view.read (Elt F) fa) w t) ∗ holds thr db (part (B.view.read (Elt F) fb) w t))
            ∗ (pts thr A (regIn w) q fa ∗ semVal (thr, SemLoc.dma sa) 0 ∗ pts thr B (regIn w) q fb ∗ semVal (thr, SemLoc.dma sb) 0)
            ∗ owing thr O W)
          -∗ wp frame (wpE (defs₀ (F := F)) 𝒱₀ thr none) Set.univ (k ⟨⟩) Q)
        -∗ wp frame (wpE (defs₀ (F := F)) 𝒱₀ thr none) Set.univ
            (.op (.waitDma2 sa srca da h1 h2) fun _ => .op (.waitDma2 sb srcb db h3 h4) k) Q) := by
  unfold inSlot
  rw [if_pos ht, if_pos ht]
  iintro ⟨⟨Ha, Hb⟩, HO, #Hm⟩ Hk
  unfold owing
  icases HO with ⟨%W', %hW', HO⟩
  iapply (wp_fetched thr) $$ [Ha HO]
  · isplitl [Ha]; · iexact Ha
    isplitl [HO]; · iexact HO
    iexact Hm
  iintro ⟨⟨Hda, Ha, Hsa⟩, HO⟩
  ihave HO := (owing_insert thr hW') $$ HO
  unfold owing
  clear W' hW'
  icases HO with ⟨%W', %hW', HO⟩
  iapply (wp_fetched thr) $$ [Hb HO]
  · isplitl [Hb]; · iexact Hb
    isplitl [HO]; · iexact HO
    iexact Hm
  iintro ⟨⟨Hdb, Hb, Hsb⟩, HO⟩
  ihave HO := (owing_insert thr hW') $$ HO
  iapply Hk
  isplitl [Hda Hdb]
  · isplitl [Hda] <;> iassumption
  isplitr [HO]
  · isplitl [Ha]; · iexact Ha
    isplitl [Hsa]; · iexact Hsa
    isplitl [Hb] <;> iassumption
  unfold owing
  iexact HO

/-- Both inputs of a later step are fetched, unless there is none. -/
theorem wp_prefetch {α : Type} {Q : α → sProp 𝕄} {A : Memref sig thr.2.kind .hbm S2x96x256x256 .f32} {B : Memref sig thr.2.kind .hbm S2x96x256x256 .i32}
    {da : Memref sig thr.2.kind .vmem S32x256 .f32} {db : Memref sig thr.2.kind .vmem S32x256 .i32} {sa sb : DmaSem sig}
    {c : BitVec 1} {off : Fin 4 → ℕ} {inba inbb : c = 1#1 → ∀ a, off a + S1x1x32x256.size a ≤ S2x96x256x256.size a}
    {h1 : ∀ h : c = 1#1, (inSl A off (inba h)).view.WordExact} {h2 h3} {h4 : ∀ h : c = 1#1, (inSl B off (inbb h)).view.WordExact} {h5 h6}
    {w t : ℕ} (hw : w < 32) (hc : c = 1#1 ↔ t < 48) (hoff : t < 48 → off = offs 32 w t)
    {q : PosShare TreeShare} {fa : Buf (Elt F) (A.view.loc thr)} {fb : Buf (Elt F) (B.view.loc thr)}
    {va : S32x256.Idx → Elt F .f32} {vb : S32x256.Idx → Elt F .i32}
    {k : Prog (TpuEff nD τ sig (Elt F) Λ₀ thr.2) α} :
    (iprop((holds thr da va ∗ holds thr db vb)
        ∗ (pts thr A (regIn w) q fa ∗ semVal (thr, SemLoc.dma sa) 0 ∗ pts thr B (regIn w) q fb ∗ semVal (thr, SemLoc.dma sb) 0)) : sProp 𝕄)
      ⊢ iprop((iprop(inSlot thr A da sa w t q fa ∗ inSlot thr B db sb w t q fb)
          -∗ wp frame (wpE (defs₀ (F := F)) 𝒱₀ thr none) Set.univ k Q)
        -∗ wp frame (wpE (defs₀ (F := F)) 𝒱₀ thr none) Set.univ
            (if h : c = 1#1 then
                .op (.enqueueDma (inSl A off (inba h)) (.here da) (.dma sa) (h1 h) h2 h3) fun _ =>
                  .op (.enqueueDma (inSl B off (inbb h)) (.here db) (.dma sb) (h4 h) h5 h6) fun _ => k
              else k) Q) := by
  iintro ⟨⟨Hda, Hdb⟩, Ha, Hsa, Hb, Hsb⟩ Hk
  unfold inSlot
  by_cases ht : t < 48
  · rw [dif_pos (hc.mpr ht), if_pos ht, if_pos ht]
    iapply (wp_fetch thr hw ht (hoff ht)) $$ [Ha Hda Hsa]
    · isplitl [Ha]; · iexact Ha
      isplitl [Hda]; · iexists _; iexact Hda
      iexact Hsa
    iintro Ha
    iapply (wp_fetch thr hw ht (hoff ht)) $$ [Hb Hdb Hsb]
    · isplitl [Hb]; · iexact Hb
      isplitl [Hdb]; · iexists _; iexact Hdb
      iexact Hsb
    iintro Hb
    iapply Hk
    isplitl [Ha] <;> iassumption
  · rw [dif_neg (fun h => ht (hc.mp h)), if_neg ht, if_neg ht]
    iapply Hk
    isplitl [Ha Hda Hsa]
    · isplitl [Ha]; · iexact Ha
      isplitl [Hda]; · iexists _; iexact Hda
      iexact Hsa
    · isplitl [Hb]; · iexact Hb
      isplitl [Hdb]; · iexists _; iexact Hdb
      iexact Hsb

/-- The wait for an earlier result, unless there is none. -/
theorem wp_drain {α : Type} {Q : α → sProp 𝕄} {A : Memref sig thr.2.kind .hbm S2x96x512x512 .f32}
    {src : Memref sig thr.2.kind .vmem S64x512 .f32} {sem : DmaSem sig}
    {c : BitVec 1} {off : Fin 4 → ℕ} {inb : c = 1#1 → ∀ a, off a + S1x1x64x512.size a ≤ S2x96x512x512.size a}
    {h1} {h2 : ∀ h : c = 1#1, (outSl A off (inb h)).view.WordExact}
    {w j t n n' : ℕ} (hc : c = 1#1 ↔ 0 < j) (hn : 0 < j → n = t ∧ n' = t + 1) (hz : j = 0 → n = n')
    {g : Buf (Elt F) (A.view.loc thr)} {k : Prog (TpuEff nD τ sig (Elt F) Λ₀ thr.2) α} :
    (iprop(outSlot thr A src sem w j t g ∗ pts thr A (doneOut w n) fullShare g ∗ owing thr O W ∗ MayWaits thr (default : HIx 1) O) : sProp 𝕄)
      ⊢ iprop((iprop((∃ x, holds thr src x) ∗ semVal (thr, SemLoc.dma sem) 0 ∗ pts thr A (doneOut w n') fullShare g ∗ owing thr O W)
          -∗ wp frame (wpE (defs₀ (F := F)) 𝒱₀ thr none) Set.univ k Q)
        -∗ wp frame (wpE (defs₀ (F := F)) 𝒱₀ thr none) Set.univ
            (if h : c = 1#1 then .op (.waitDma2 sem src (outSl A off (inb h)) h1 (h2 h)) fun _ => k else k) Q) := by
  unfold outSlot
  by_cases hj : 0 < j
  · obtain ⟨rfl, rfl⟩ := hn hj
    rw [dif_pos (hc.mpr hj), if_pos hj]
    unfold owing
    iintro ⟨Hs, HG, HO, #Hm⟩ Hk
    icases HO with ⟨%W', %hW', HO⟩
    iapply (wp_flushed thr) $$ [Hs HG HO]
    · isplitl [Hs]; · iexact Hs
      isplitl [HG]; · iexact HG
      isplitl [HO]; · iexact HO
      iexact Hm
    iintro ⟨⟨Hx, Hs⟩, HG, HO⟩
    ihave HO := (owing_insert thr hW') $$ HO
    iapply Hk
    isplitl [Hx]; · iexact Hx
    isplitl [Hs]; · iexact Hs
    isplitl [HG]; · iexact HG
    unfold owing
    iexact HO
  · obtain rfl := hz (by omega)
    rw [dif_neg (fun h => hj (hc.mp h)), if_neg hj]
    iintro ⟨⟨Hx, Hs⟩, HG, HO, #Hm⟩ Hk
    iapply Hk
    isplitl [Hx]; · iexact Hx
    isplitl [Hs]; · iexact Hs
    isplitl [HG] <;> iassumption

end Slots

variable (d : Fin nD) (L : grid0.Coords)
  (arg2 : Memref sig .scVector .hbm S2x96x256x256 .f32) (harg2 : arg2.IsWhole) (arg3 : Memref sig .scVector .hbm S2x96x256x256 .i32) (harg3 : arg3.IsWhole)
  (arg4 : Memref sig .scVector .hbm S2x96x512x512 .f32) (harg4 : arg4.IsWhole)
  (arg5 : Memref sig .scVector .vmem S32x256 .f32) (harg5 : arg5.IsWhole) (arg6 : Memref sig .scVector .vmem S32x256 .f32) (harg6 : arg6.IsWhole)
  (arg7 : Memref sig .scVector .vmem S32x256 .i32) (harg7 : arg7.IsWhole) (arg8 : Memref sig .scVector .vmem S32x256 .i32) (harg8 : arg8.IsWhole)
  (arg9 : Memref sig .scVector .vmem S64x512 .f32) (harg9 : arg9.IsWhole) (arg10 : Memref sig .scVector .vmem S64x512 .f32) (harg10 : arg10.IsWhole)
  (arg11 arg12 arg13 arg14 arg15 arg16 : DmaSems sig S_)
  (O : CellTallies nD τ sig (HIx 1)) (W : Waits sig (HIx 1)) (q0 q1 : PosShare TreeShare)
  (fa : Buf (Elt F) (arg2.view.loc (V d (cV L) (jV L)))) (fb : Buf (Elt F) (arg3.view.loc (V d (cV L) (jV L))))
  (fo g : Buf (Elt F) (arg4.view.loc (V d (cV L) (jV L))))

/-- Before trip `k`. -/
def Inv (k : ℕ) (_ : Unit) : sProp 𝕄 :=
  iprop(owing (V d (cV L) (jV L)) O W
    ∗ (inSlot (V d (cV L) (jV L)) arg2 arg5 arg11.sem (wid L) (2 * k) q0 fa ∗ inSlot (V d (cV L) (jV L)) arg3 arg7 arg13.sem (wid L) (2 * k) q0 fb)
    ∗ (inSlot (V d (cV L) (jV L)) arg2 arg6 arg12.sem (wid L) (2 * k + 1) q1 fa ∗ inSlot (V d (cV L) (jV L)) arg3 arg8 arg14.sem (wid L) (2 * k + 1) q1 fb)
    ∗ outSlot (V d (cV L) (jV L)) arg4 arg9 arg15.sem (wid L) k (2 * k - 2) g
    ∗ outSlot (V d (cV L) (jV L)) arg4 arg10 arg16.sem (wid L) k (2 * k - 1) g
    ∗ pts (V d (cV L) (jV L)) arg4 (doneOut (wid L) (2 * k - 2)) fullShare g
    ∗ pts (V d (cV L) (jV L)) arg4 (todoOut (wid L) (2 * k)) fullShare fo)

/-- What a step's inner loop leaves: its two inputs as fetched, its block of the result in `o`, the semaphores of its
copies at zero. -/
def stepDone (k t : ℕ) (q : PosShare TreeShare) (v : Memref sig .scVector .vmem S32x256 .f32) (x : Memref sig .scVector .vmem S32x256 .i32)
    (o : Memref sig .scVector .vmem S64x512 .f32) (sv sx so : DmaSems sig S_) : sProp 𝕄 :=
  iprop(owing (V d (cV L) (jV L)) O W
    ∗ (holds (V d (cV L) (jV L)) v (part (arg2.view.read (Elt F) fa) (wid L) t) ∗ holds (V d (cV L) (jV L)) x (part (arg3.view.read (Elt F) fb) (wid L) t))
    ∗ (pts (V d (cV L) (jV L)) arg2 (regIn (wid L)) q fa ∗ semVal ((V d (cV L) (jV L)), SemLoc.dma sv.sem) 0
      ∗ pts (V d (cV L) (jV L)) arg3 (regIn (wid L)) q fb ∗ semVal ((V d (cV L) (jV L)), SemLoc.dma sx.sem) 0)
    ∗ (holds (V d (cV L) (jV L)) o (fun p => arg4.view.read (Elt F) g (outPos (wid L) t p)) ∗ semVal ((V d (cV L) (jV L)), SemLoc.dma so.sem) 0)
    ∗ pts (V d (cV L) (jV L)) arg4 (doneOut (wid L) k) fullShare g)

/-- The block a step computes is its block of the result. -/
theorem blk_result (hg : arg4.view.read (Elt F) g = G (arg2.view.read (Elt F) fa) (arg3.view.read (Elt F) fb)) (t : ℕ) :
    blk (t % 8 * 64) (part (arg2.view.read (Elt F) fa) (wid L) t) (part (arg3.view.read (Elt F) fb) (wid L) t)
      = fun p => arg4.view.read (Elt F) g (outPos (wid L) t p) := by
  funext p; rw [hg]; exact blk_part _ _ _ _ _

set_option maxHeartbeats 8000000 in
/-- The first part of a trip: the even step's inputs are waited for, its buffer is free again, and its block is computed. -/
theorem even_step (hin : InWin (arg3.view.read (Elt F) fb))
    (hg : arg4.view.read (Elt F) g = G (arg2.view.read (Elt F) fa) (arg3.view.read (Elt F) fb)) (v4 : BitVec 32)
    (k0_t1 : Fin k0_t1_loop.trips) :
    iprop(MayWaits (V d (cV L) (jV L)) (default : HIx 1) O ∗ owing (V d (cV L) (jV L)) O W
        ∗ (inSlot (V d (cV L) (jV L)) arg2 arg5 arg11.sem (wid L) (2 * k0_t1.val) q0 fa ∗ inSlot (V d (cV L) (jV L)) arg3 arg7 arg13.sem (wid L) (2 * k0_t1.val) q0 fb)
        ∗ outSlot (V d (cV L) (jV L)) arg4 arg9 arg15.sem (wid L) k0_t1.val (2 * k0_t1.val - 2) g
        ∗ pts (V d (cV L) (jV L)) arg4 (doneOut (wid L) (2 * k0_t1.val - 2)) fullShare g)
      ⊢ wp frame (wpE (defs₀ (F := F)) 𝒱₀ (V d (cV L) (jV L)) none) Set.univ
          (k0_part21 (F := F) L arg2 harg2 arg3 harg3 arg4 harg4 arg5 harg5 arg6 harg6 arg7 harg7 arg8 harg8 arg9 harg9 arg10 harg10 arg11 arg12 arg13 arg14 arg15 arg16 v4 0#32 1#32 k0_t1)
          fun r => iprop(⌜r = ⟨Scf.iv 0#32 1#32 k0_t1, Scalar.addi (Scalar.muli (Scf.iv 0#32 1#32 k0_t1) 2#32) 0#32⟩⌝
            ∗ stepDone d L arg2 arg3 arg4 O W fa fb g (2 * k0_t1.val - 1) (2 * k0_t1.val) q0 arg5 arg7 arg9 arg11 arg13 arg15) := by
  have hk : k0_t1.val < 24 := lt_of_lt_of_eq k0_t1.isLt trips1
  simp only [k0_part21_eq_skeleton]
  sl_respell [k0_part21_skel]
  simp only [Prog.lift, Prog.bind_op, Prog.bind_ret, Prog.pure_eq_ret, Prog.bind_assoc]
  iintro ⟨#Hm, HO, Hi0, Ho0, Hg⟩
  iapply (wp_inputs (V d (cV L) (jV L)) (t := 2 * k0_t1.val) (by omega)) $$ [Hi0 HO]
  · isplitl [Hi0]; · iexact Hi0
    isplitl [HO]; · iexact HO
    iexact Hm
  iintro ⟨⟨Hv, Hx⟩, Hp0, HO⟩
  iapply (wp_drain (V d (cV L) (jV L)) (n := 2 * k0_t1.val - 2) (n' := 2 * k0_t1.val - 1) (cond1_iff k0_t1) (fun h => ⟨rfl, by omega⟩) (fun h => by omega)) $$ [Ho0 Hg HO]
  · isplitl [Ho0]; · iexact Ho0
    isplitl [Hg]; · iexact Hg
    isplitl [HO]; · iexact HO
    iexact Hm
  iintro ⟨Ho0, Hs0, Hg, HO⟩
  iapply (loop0 d L arg2 harg2 arg3 harg3 arg4 harg4 arg5 harg5 arg6 harg6 arg7 harg7 arg8 harg8 arg9 harg9 arg10 harg10 arg11 arg12 arg13 arg14 arg15 arg16 k0_t1 (inBlk_part hin (wid L) (2 * k0_t1.val)) (row0_even k0_t1)) $$ [Ho0 Hv Hx]
  · isplitl [Ho0]; · iexact Ho0
    isplitl [Hv] <;> iassumption
  rw [blk_result d L arg2 arg3 arg4 fa fb g hg]
  iintro ⟨Ho0, Hv, Hx⟩
  rw [wp_ret]
  imodintro
  unfold stepDone
  isplitr; · ipureintro; rfl
  isplitl [HO]; · iexact HO
  isplitl [Hv Hx]; · isplitl [Hv] <;> iassumption
  isplitl [Hp0]; · iexact Hp0
  isplitl [Ho0 Hs0]; · isplitl [Ho0] <;> iassumption
  iexact Hg

set_option maxHeartbeats 8000000 in
/-- The middle of a trip: the even step's result is sent and the next even step's inputs are fetched; then the same as
`even_step`, for the odd step. -/
theorem odd_step (hin : InWin (arg3.view.read (Elt F) fb))
    (hg : arg4.view.read (Elt F) g = G (arg2.view.read (Elt F) fa) (arg3.view.read (Elt F) fb)) (v4 v37 : BitVec 32)
    (k0_t1 : Fin k0_t1_loop.trips) :
    iprop(MayWaits (V d (cV L) (jV L)) (default : HIx 1) O
        ∗ stepDone d L arg2 arg3 arg4 O W fa fb g (2 * k0_t1.val - 1) (2 * k0_t1.val) q0 arg5 arg7 arg9 arg11 arg13 arg15
        ∗ (inSlot (V d (cV L) (jV L)) arg2 arg6 arg12.sem (wid L) (2 * k0_t1.val + 1) q1 fa ∗ inSlot (V d (cV L) (jV L)) arg3 arg8 arg14.sem (wid L) (2 * k0_t1.val + 1) q1 fb)
        ∗ outSlot (V d (cV L) (jV L)) arg4 arg10 arg16.sem (wid L) k0_t1.val (2 * k0_t1.val - 1) g
        ∗ pts (V d (cV L) (jV L)) arg4 (todoOut (wid L) (2 * k0_t1.val)) fullShare fo)
      ⊢ wp frame (wpE (defs₀ (F := F)) 𝒱₀ (V d (cV L) (jV L)) none) Set.univ
          (k0_part22 (F := F) L arg2 harg2 arg3 harg3 arg4 harg4 arg5 harg5 arg6 harg6 arg7 harg7 arg8 harg8 arg9 harg9 arg10 harg10 arg11 arg12 arg13 arg14 arg15 arg16 v4 k0_t1 (Scf.iv 0#32 1#32 k0_t1) v37)
          fun _ => iprop(stepDone d L arg2 arg3 arg4 O W fa fb g (2 * (k0_t1.val + 1) - 2) (2 * k0_t1.val + 1) q1 arg6 arg8 arg10 arg12 arg14 arg16
            ∗ (inSlot (V d (cV L) (jV L)) arg2 arg5 arg11.sem (wid L) (2 * (k0_t1.val + 1)) q0 fa ∗ inSlot (V d (cV L) (jV L)) arg3 arg7 arg13.sem (wid L) (2 * (k0_t1.val + 1)) q0 fb)
            ∗ flushing (V d (cV L) (jV L)) arg4 arg9 arg15.sem (wid L) (2 * k0_t1.val) g
            ∗ pts (V d (cV L) (jV L)) arg4 (todoOut (wid L) (2 * k0_t1.val + 1)) fullShare fo) := by
  have hk : k0_t1.val < 24 := lt_of_lt_of_eq k0_t1.isLt trips1
  have hw := wid_lt L
  simp only [k0_part22_eq_skeleton]
  sl_respell [k0_part22_skel]
  simp only [Prog.lift, Prog.bind_op, Prog.bind_ret, Prog.pure_eq_ret, Prog.bind_assoc]
  unfold stepDone
  iintro ⟨#Hm, ⟨HO, ⟨Hv, Hx⟩, Hp0, ⟨Ho0, Hs0⟩, Hg⟩, Hi1, Ho1, Hf⟩
  iapply (wp_flush (V d (cV L) (jV L)) hw (t := 2 * k0_t1.val) (by omega) (off85_even L k0_t1) (g := g) rfl) $$ [Hf Ho0 Hs0]
  · isplitl [Hf]; · iexact Hf
    isplitl [Ho0] <;> iassumption
  iintro ⟨Ho0, Hf⟩
  iapply (wp_prefetch (V d (cV L) (jV L)) hw (t := 2 * (k0_t1.val + 1)) ((cond2_iff k0_t1).trans (by omega)) (fun h => (off86_eq L k0_t1 (by omega)))) $$ [Hv Hx Hp0]
  · isplitl [Hv Hx]
    · isplitl [Hv] <;> iassumption
    iexact Hp0
  iintro Hi0
  iapply (wp_inputs (V d (cV L) (jV L)) (t := 2 * k0_t1.val + 1) (by omega)) $$ [Hi1 HO]
  · isplitl [Hi1]; · iexact Hi1
    isplitl [HO]; · iexact HO
    iexact Hm
  iintro ⟨⟨Hv, Hx⟩, Hp1, HO⟩
  iapply (wp_drain (V d (cV L) (jV L)) (n := 2 * k0_t1.val - 1) (n' := 2 * (k0_t1.val + 1) - 2) (cond3_iff k0_t1) (fun h => ⟨rfl, by omega⟩) (fun h => by omega)) $$ [Ho1 Hg HO]
  · isplitl [Ho1]; · iexact Ho1
    isplitl [Hg]; · iexact Hg
    isplitl [HO]; · iexact HO
    iexact Hm
  iintro ⟨Ho1, Hs1, Hg, HO⟩
  iapply (loop1 d L arg2 harg2 arg3 harg3 arg4 harg4 arg5 harg5 arg6 harg6 arg7 harg7 arg8 harg8 arg9 harg9 arg10 harg10 arg11 arg12 arg13 arg14 arg15 arg16 k0_t1 (inBlk_part hin (wid L) (2 * k0_t1.val + 1)) (row0_odd k0_t1)) $$ [Ho1 Hv Hx]
  · isplitl [Ho1]; · iexact Ho1
    isplitl [Hv] <;> iassumption
  rw [blk_result d L arg2 arg3 arg4 fa fb g hg]
  iintro ⟨Ho1, Hv, Hx⟩
  rw [wp_ret]
  imodintro
  isplitr [Hi0 Ho0 Hf]
  · isplitl [HO]; · iexact HO
    isplitl [Hv Hx]; · isplitl [Hv] <;> iassumption
    isplitl [Hp1]; · iexact Hp1
    isplitl [Ho1 Hs1]; · isplitl [Ho1] <;> iassumption
    iexact Hg
  isplitl [Hi0]; · iexact Hi0
  isplitl [Ho0] <;> iassumption

set_option maxHeartbeats 8000000 in
/-- A trip takes the state before it to the state before the next. -/
theorem pair_trip (hin : InWin (arg3.view.read (Elt F) fb))
    (hg : arg4.view.read (Elt F) g = G (arg2.view.read (Elt F) fa) (arg3.view.read (Elt F) fb)) (v4 : BitVec 32)
    (k0_t1 : Fin k0_t1_loop.trips) (acc : Unit) :
    iprop(MayWaits (V d (cV L) (jV L)) (default : HIx 1) O
        ∗ Inv d L arg2 arg3 arg4 arg5 arg6 arg7 arg8 arg9 arg10 arg11 arg12 arg13 arg14 arg15 arg16 O W q0 q1 fa fb fo g k0_t1.val acc)
      ⊢ wp frame (wpE (defs₀ (F := F)) 𝒱₀ (V d (cV L) (jV L)) none) Set.univ
          (k0_t1_body (F := F) L arg2 harg2 arg3 harg3 arg4 harg4 arg5 harg5 arg6 harg6 arg7 harg7 arg8 harg8 arg9 harg9 arg10 harg10 arg11 arg12 arg13 arg14 arg15 arg16 v4 0#32 1#32 k0_t1 acc)
          fun acc' => iprop(Inv d L arg2 arg3 arg4 arg5 arg6 arg7 arg8 arg9 arg10 arg11 arg12 arg13 arg14 arg15 arg16 O W q0 q1 fa fb fo g (k0_t1.val + 1) acc') := by
  have hk : k0_t1.val < 24 := lt_of_lt_of_eq k0_t1.isLt trips1
  have hw := wid_lt L
  sl_respell [k0_t1_body]
  simp only [Prog.lift, Prog.bind_op, Prog.bind_ret, Prog.pure_eq_ret, Prog.bind_assoc]
  unfold Inv
  iintro ⟨#Hm, HO, Hi0, Hi1, Ho0, Ho1, Hg, Hf⟩
  rw [wp_bind]
  ihave H := (even_step d L arg2 harg2 arg3 harg3 arg4 harg4 arg5 harg5 arg6 harg6 arg7 harg7 arg8 harg8 arg9 harg9 arg10 harg10 arg11 arg12 arg13 arg14 arg15 arg16 O W q0 fa fb g hin hg v4 k0_t1) $$ [HO Hi0 Ho0 Hg]
  · isplitr; · iexact Hm
    isplitl [HO]; · iexact HO
    isplitl [Hi0]; · iexact Hi0
    isplitl [Ho0] <;> iassumption
  iapply (wp_wand frame _) $$ H
  iintro %r ⟨%hr, H⟩
  subst hr
  dsimp only
  rw [wp_bind]
  ihave H := (odd_step d L arg2 harg2 arg3 harg3 arg4 harg4 arg5 harg5 arg6 harg6 arg7 harg7 arg8 harg8 arg9 harg9 arg10 harg10 arg11 arg12 arg13 arg14 arg15 arg16 O W q0 q1 fa fb fo g hin hg v4 _ k0_t1) $$ [H Hi1 Ho1 Hf]
  · isplitr; · iexact Hm
    isplitl [H]; · iexact H
    isplitl [Hi1]; · iexact Hi1
    isplitl [Ho1] <;> iassumption
  iapply (wp_wand frame _) $$ H
  iintro %r H
  unfold stepDone
  icases H with ⟨⟨HO, ⟨Hv, Hx⟩, Hp1, ⟨Ho1, Hs1⟩, Hg⟩, Hi0, Ho0, Hf⟩
  iapply (wp_flush (V d (cV L) (jV L)) hw (t := 2 * k0_t1.val + 1) (by omega) (off85_odd L k0_t1) (g := g) rfl) $$ [Hf Ho1 Hs1]
  · isplitl [Hf]; · iexact Hf
    isplitl [Ho1] <;> iassumption
  iintro ⟨Ho1, Hf⟩
  iapply (wp_prefetch (V d (cV L) (jV L)) hw (t := 2 * (k0_t1.val + 1) + 1) ((cond4_iff k0_t1).trans (by omega)) (fun h => (off168_eq L k0_t1 (by omega)))) $$ [Hv Hx Hp1]
  · isplitl [Hv Hx]
    · isplitl [Hv] <;> iassumption
    iexact Hp1
  iintro Hi1
  rw [wp_ret]
  imodintro
  isplitl [HO]; · iexact HO
  isplitl [Hi0]; · iexact Hi0
  isplitl [Hi1]; · iexact Hi1
  unfold outSlot
  rw [if_pos (Nat.succ_pos _), if_pos (Nat.succ_pos _)]
  isplitl [Ho0]; · iexact Ho0
  isplitl [Ho1]; · iexact Ho1
  isplitl [Hg]; · iexact Hg
  iexact Hf

end Cert.Proof.Unpool
-- ==== Proof.Tile.lean ====
/-
  The kernel's body on one task: it starts the first two steps' copies, runs the 24 trips of `pair_trip`, and waits for
  the last two results. What it was given it gives back, with its part of the result written.
-/
module

public import proofs.«01_k».proof.Proof.Pair

@[expose] public section

noncomputable section

namespace Cert.Proof.Unpool

open Cert.KernelIdeal Cert.KernelIdeal.Gen

open Idealize.ShloMosaic
open Idealize.ShloMosaic.SparseCore (S V T)
open Idealize.ShloMosaic.SparseCore.Cfg (HIx)
open Idealize.ShloMosaic.Transfers (Flight MayWaits)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (d : Fin nD) (L : grid0.Coords)
  (arg2 : Memref sig .scVector .hbm S2x96x256x256 .f32) (harg2 : arg2.IsWhole) (arg3 : Memref sig .scVector .hbm S2x96x256x256 .i32) (harg3 : arg3.IsWhole)
  (arg4 : Memref sig .scVector .hbm S2x96x512x512 .f32) (harg4 : arg4.IsWhole)
  (arg5 : Memref sig .scVector .vmem S32x256 .f32) (harg5 : arg5.IsWhole) (arg6 : Memref sig .scVector .vmem S32x256 .f32) (harg6 : arg6.IsWhole)
  (arg7 : Memref sig .scVector .vmem S32x256 .i32) (harg7 : arg7.IsWhole) (arg8 : Memref sig .scVector .vmem S32x256 .i32) (harg8 : arg8.IsWhole)
  (arg9 : Memref sig .scVector .vmem S64x512 .f32) (harg9 : arg9.IsWhole) (arg10 : Memref sig .scVector .vmem S64x512 .f32) (harg10 : arg10.IsWhole)
  (arg11 arg12 arg13 arg14 arg15 arg16 : DmaSems sig S_)
  (O : CellTallies nD τ sig (HIx 1)) (W : Waits sig (HIx 1)) (q0 q1 : PosShare TreeShare)
  (fa : Buf (Elt F) (arg2.view.loc (V d (cV L) (jV L)))) (fb : Buf (Elt F) (arg3.view.loc (V d (cV L) (jV L))))
  (fo g : Buf (Elt F) (arg4.view.loc (V d (cV L) (jV L))))

/-- An input slot at rest: its share of the task's part of both inputs, its two buffers, its two semaphores at zero. -/
def inRest (q : PosShare TreeShare) (va : Memref sig .scVector .vmem S32x256 .f32) (vb : Memref sig .scVector .vmem S32x256 .i32)
    (sa sb : DmaSems sig S_) : sProp 𝕄 :=
  iprop((pts (V d (cV L) (jV L)) arg2 (regIn (wid L)) q fa ∗ (∃ x, holds (V d (cV L) (jV L)) va x) ∗ semVal ((V d (cV L) (jV L)), SemLoc.dma sa.sem) 0)
    ∗ (pts (V d (cV L) (jV L)) arg3 (regIn (wid L)) q fb ∗ (∃ x, holds (V d (cV L) (jV L)) vb x) ∗ semVal ((V d (cV L) (jV L)), SemLoc.dma sb.sem) 0))

/-- An output slot at rest: its buffer and its semaphore at zero. -/
def outRest (o : Memref sig .scVector .vmem S64x512 .f32) (so : DmaSems sig S_) : sProp 𝕄 :=
  iprop((∃ x, holds (V d (cV L) (jV L)) o x) ∗ semVal ((V d (cV L) (jV L)), SemLoc.dma so.sem) 0)

set_option maxHeartbeats 8000000 in
/-- The body, run on one task. -/
theorem body_run (hin : InWin (arg3.view.read (Elt F) fb))
    (hg : arg4.view.read (Elt F) g = G (arg2.view.read (Elt F) fa) (arg3.view.read (Elt F) fb)) :
    iprop(MayWaits (V d (cV L) (jV L)) (default : HIx 1) O ∗ owing (V d (cV L) (jV L)) O W
        ∗ inRest d L arg2 arg3 fa fb q0 arg5 arg7 arg11 arg13 ∗ inRest d L arg2 arg3 fa fb q1 arg6 arg8 arg12 arg14
        ∗ outRest d L arg9 arg15 ∗ outRest d L arg10 arg16
        ∗ pts (V d (cV L) (jV L)) arg4 (regOut (wid L)) fullShare fo)
      ⊢ wp frame (wpE (defs₀ (F := F)) 𝒱₀ (V d (cV L) (jV L)) none) Set.univ
          (cc0__unpool_body (F := F) L arg2 harg2 arg3 harg3 arg4 harg4 arg5 harg5 arg6 harg6 arg7 harg7 arg8 harg8 arg9 harg9 arg10 harg10 arg11 arg12 arg13 arg14 arg15 arg16)
          fun _ => iprop(owing (V d (cV L) (jV L)) O W
            ∗ inRest d L arg2 arg3 fa fb q0 arg5 arg7 arg11 arg13 ∗ inRest d L arg2 arg3 fa fb q1 arg6 arg8 arg12 arg14
            ∗ outRest d L arg9 arg15 ∗ outRest d L arg10 arg16
            ∗ pts (V d (cV L) (jV L)) arg4 (regOut (wid L)) fullShare g) := by
  have hw := wid_lt L
  simp only [cc0__unpool_body_eq_skeleton]
  sl_respell [cc0__unpool_body_skel]
  simp only [k0_part23_eq_skeleton]
  sl_respell [k0_part23_skel]
  simp only [Prog.lift, Prog.bind_op, Prog.bind_ret, Prog.pure_eq_ret, Prog.bind_assoc]
  unfold inRest outRest
  iintro ⟨#Hm, HO, ⟨Ha0, Hb0⟩, ⟨Ha1, Hb1⟩, Ho0, Ho1, Hf⟩
  iapply (wp_fetch (V d (cV L) (jV L)) hw (t := 0) (by omega) (off1_eq L)) $$ Ha0
  iintro Ha0
  iapply (wp_fetch (V d (cV L) (jV L)) hw (t := 0) (by omega) (off1_eq L)) $$ Hb0
  iintro Hb0
  iapply (wp_fetch (V d (cV L) (jV L)) hw (t := 1) (by omega) (off2_eq L)) $$ Ha1
  iintro Ha1
  iapply (wp_fetch (V d (cV L) (jV L)) hw (t := 1) (by omega) (off2_eq L)) $$ Hb1
  iintro Hb1
  have hnone : (pts (V d (cV L) (jV L)) arg4 (doneOut (wid L) 0) fullShare g : sProp 𝕄) = iprop(emp) := by
    unfold pts; rw [done_none, Finset.map_empty, pointsTo_empty]
  have hnone' : (pts (V d (cV L) (jV L)) arg4 (todoOut (wid L) 48) fullShare fo : sProp 𝕄) = iprop(emp) := by
    unfold pts; rw [todo_none, Finset.map_empty, pointsTo_empty]
  sl_for (fun k acc => iprop(MayWaits (V d (cV L) (jV L)) (default : HIx 1) O ∗ Inv d L arg2 arg3 arg4 arg5 arg6 arg7 arg8 arg9 arg10 arg11 arg12 arg13 arg14 arg15 arg16 O W q0 q1 fa fb fo g k acc)) $$ [HO Ha0 Hb0 Ha1 Hb1 Ho0 Ho1 Hf]
  · intro k acc
    iintro ⟨#Hm, H⟩
    ihave H := (pair_trip d L arg2 harg2 arg3 harg3 arg4 harg4 arg5 harg5 arg6 harg6 arg7 harg7 arg8 harg8 arg9 harg9 arg10 harg10 arg11 arg12 arg13 arg14 arg15 arg16 O W q0 q1 fa fb fo g hin hg _ k acc) $$ [H]
    · isplitr; · iexact Hm
      iexact H
    iapply (wp_wand frame _) $$ H
    iintro %acc' H
    isplitr; · iexact Hm
    iexact H
  · isplitr; · iexact Hm
    unfold Inv inSlot outSlot
    simp only [Nat.mul_zero, Nat.zero_sub, Nat.zero_add, Nat.lt_irrefl, if_false, Nat.reduceLT, if_true, hnone, todo_all]
    isplitl [HO]; · iexact HO
    isplitl [Ha0 Hb0]
    · isplitl [Ha0] <;> iassumption
    isplitl [Ha1 Hb1]
    · isplitl [Ha1] <;> iassumption
    isplitl [Ho0]; · iexact Ho0
    isplitl [Ho1]; · iexact Ho1
    isplitr
    · iempintro
    iexact Hf
  iintro %acc ⟨-, H⟩
  rw [show Scf.trips k0_t1_loop.lb k0_t1_loop.ub k0_t1_loop.st = 24 from trips1]
  unfold Inv inSlot outSlot owing
  simp only [Nat.reduceMul, Nat.reduceAdd, Nat.reduceSub, Nat.reduceLT, if_false, if_true, hnone']
  icases H with ⟨⟨%W', %hW', HO⟩, Hi0, Hi1, Ho0, Ho1, Hg, -⟩
  iapply (wp_flushed (V d (cV L) (jV L))) $$ [Ho0 Hg HO]
  · isplitl [Ho0]; · iexact Ho0
    isplitl [Hg]; · iexact Hg
    isplitl [HO]; · iexact HO
    iexact Hm
  iintro ⟨⟨Hx0, Hs0⟩, Hg, HO⟩
  ihave HO := (owing_insert (V d (cV L) (jV L)) hW') $$ HO
  unfold owing
  clear W' hW'
  icases HO with ⟨%W', %hW', HO⟩
  iapply (wp_flushed (V d (cV L) (jV L))) $$ [Ho1 Hg HO]
  · isplitl [Ho1]; · iexact Ho1
    isplitl [Hg]; · iexact Hg
    isplitl [HO]; · iexact HO
    iexact Hm
  iintro ⟨⟨Hx1, Hs1⟩, Hg, HO⟩
  ihave HO := (owing_insert (V d (cV L) (jV L)) hW') $$ HO
  simp only [Nat.reduceAdd, done_all48]
  rw [wp_ret]
  imodintro
  isplitl [HO]; · unfold owing; iexact HO
  isplitl [Hi0]; · iexact Hi0
  isplitl [Hi1]; · iexact Hi1
  isplitl [Hx0 Hs0]; · isplitl [Hx0] <;> iassumption
  isplitl [Hx1 Hs1]; · isplitl [Hx1] <;> iassumption
  iexact Hg

end Cert.Proof.Unpool
-- ==== Proof.Task.lean ====
/-
  One task as the launch sees it: from its parts of the two inputs and of the result, its own buffers and its own
  semaphores at zero, it gives all of it back with its part of the result written.
-/
module

public import proofs.«01_k».proof.Proof.Tile
public import Idealize.ShloMosaic.Lib.SparseCore.Quiescent
public import Idealize.ShloMosaic.Lib.SparseCore.Ops
public import Idealize.ShloMosaic.Lib.Pipeline.Kit

@[expose] public section

noncomputable section

namespace Cert.Proof.Unpool

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells)
open Idealize.ShloMosaic.Transfers (Flight MayWaits)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The program as the launch theorem sees it -/

/-- The labels of the program with its one call. -/
abbrev ΛP : Labels := Pipeline.Sig Λ₀ (Fin 0) fun p => (pcfgs (F := F) p).Adm
/-- The program's SparseCore call. -/
abbrev K : SparseCore.Cfg τ sig (ΛP (F := F)) 1 := sc (F := F)
/-- The bodies the labels name. -/
abbrev D [FloatOps F] : Defs nD τ sig (Elt F) (ΛP (F := F)) := Pipeline.defs pcfgs defs₀
/-- The loops' variants, at the program's labels. -/
abbrev 𝒱 : Variants := 𝒱₀.lift
/-- The variant the tasks start from. -/
abbrev v₀ : 𝒱.V := Sum.inl none

/-- The launch's semaphores are told apart, and no SparseCore shares a buffer with its tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The values' array on device `d`. -/
abbrev aLoc (d : Dev nD) : Loc nD τ sig := (SparseCore.T d).loc main_arg0
/-- The indices' array. -/
abbrev bLoc (d : Dev nD) : Loc nD τ sig := (SparseCore.T d).loc main_arg1
/-- The result's array. -/
abbrev oLoc (d : Dev nD) : Loc nD τ sig := (SparseCore.T d).loc main_v0

variable (m : (ℓ : Loc nD τ sig) → Buf (Elt F) ℓ)

/-- Every index of the launch memory lies in its own window. -/
def PreOK : Prop := ∀ d : Dev nD, InWin (m (bLoc d))

section Tile

variable (d : Dev nD) (L : grid0.Coords)

/-! ## The subcore's own semaphores and buffers -/

/-- The body's six semaphores. -/
abbrev csem : Fin 6 → DmaSem sig :=
  ![cc0_scratch6.sem, cc0_scratch7.sem, cc0_scratch8.sem, cc0_scratch9.sem, cc0_scratch10.sem, cc0_scratch11.sem]
/-- The cell of semaphore `k`. -/
abbrev dcell (k : Fin 6) : GSem nD τ sig := (V d (cV L) (jV L), .dma (csem k))

/-- The six semaphores are different ones. -/
theorem csem_inj : Function.Injective csem := by decide

/-- The subcore's own semaphores at zero are the body's six and the rest. -/
theorem ownSems0_V :
    (ownSems0 (V d (cV L) (jV L)) : sProp 𝕄)
      = iprop((semVal (dcell d L 0) 0 ∗ semVal (dcell d L 1) 0 ∗ semVal (dcell d L 2) 0 ∗ semVal (dcell d L 3) 0 ∗ semVal (dcell d L 4) 0 ∗ semVal (dcell d L 5) 0)
          ∗ bigSep ((ownCells (V d (cV L) (jV L))) \ Finset.univ.image (dcell d L)) fun g => semVal g 0) := by
  unfold SparseCore.Cfg.ownSems0
  rw [SparseCore.bigSep_sdiff_split' (t := Finset.univ.image (dcell d L))
      (Finset.image_subset_iff.mpr fun k _ => (mem_ownCells (g := dcell d L k)).mpr ⟨rfl, by
        have h : ∀ k : Fin 6, (SemLoc.dma (csem k) : SemLoc sig).isScoped .scVector = true := by decide
        exact h k⟩),
    SparseCore.bigSep_image_of_injOn (fun a _ b _ h => csem_inj (by
      have := congrArg (fun g : GSem nD τ sig => g.2) h
      simpa only [SemLoc.dma.injEq] using this))]
  rw [show (Finset.univ : Finset (Fin 6)) = {0, 1, 2, 3, 4, 5} by decide,
    SparseCore.bigSep_insert' (by decide), SparseCore.bigSep_insert' (by decide), SparseCore.bigSep_insert' (by decide),
    SparseCore.bigSep_insert' (by decide), SparseCore.bigSep_insert' (by decide), bigSep_singleton]

/-- The body's six buffers. -/
abbrev cbuf : Fin 6 → Ref sig .scVector := ![cc0_scratch0, cc0_scratch1, cc0_scratch2, cc0_scratch3, cc0_scratch4, cc0_scratch5]
/-- Buffer `k` as the subcore's own. -/
abbrev dbuf (k : Fin 6) : DevRef τ sig := (Proc.scVector (cV L) (jV L)).devRef (cbuf k)

/-- The six buffers are different ones. -/
theorem cbuf_inj : Function.Injective cbuf := by decide

/-- The subcore's own buffers are the body's six and the rest. -/
theorem ownBufs_V :
    (ownBufs (V d (cV L) (jV L)) : sProp 𝕄)
      = iprop(((∃ f, (V d (cV L) (jV L)).loc cc0_scratch0 ↦{fullShare} f) ∗ (∃ f, (V d (cV L) (jV L)).loc cc0_scratch1 ↦{fullShare} f)
            ∗ (∃ f, (V d (cV L) (jV L)).loc cc0_scratch2 ↦{fullShare} f) ∗ (∃ f, (V d (cV L) (jV L)).loc cc0_scratch3 ↦{fullShare} f)
            ∗ (∃ f, (V d (cV L) (jV L)).loc cc0_scratch4 ↦{fullShare} f) ∗ (∃ f, (V d (cV L) (jV L)).loc cc0_scratch5 ↦{fullShare} f))
          ∗ bigSep ((ownRefs (τ := τ) (.scVector (cV L) (jV L))) \ Finset.univ.image (dbuf L))
              fun b => iprop(∃ f, ((d, b) : Loc nD τ sig) ↦{fullShare} f)) := by
  unfold SparseCore.Cfg.ownBufs
  refine (SparseCore.bigSep_sdiff_split' (t := Finset.univ.image (dbuf L))
      (Finset.image_subset_iff.mpr fun k _ => SparseCore.Cfg.mem_ownRefs_of_owner (p := Proc.scVector (cV L) (jV L)) (b := dbuf L k) (by
        match k with
        | 0 => rfl | 1 => rfl | 2 => rfl | 3 => rfl | 4 => rfl | 5 => rfl))).trans ?_
  rw [SparseCore.bigSep_image_of_injOn (fun a _ b _ h => cbuf_inj (Proc.devRef_injective _ h))]
  rw [show (Finset.univ : Finset (Fin 6)) = {0, 1, 2, 3, 4, 5} by decide,
    SparseCore.bigSep_insert' (by decide), SparseCore.bigSep_insert' (by decide), SparseCore.bigSep_insert' (by decide),
    SparseCore.bigSep_insert' (by decide), SparseCore.bigSep_insert' (by decide), bigSep_singleton]
  rfl

/-- A buffer held whole at some contents is a view of all of it held at what it reads. -/
theorem holds_some (thr : Thread nD τ) {s : Shape} {e : EltTy} (x : Memref sig thr.2.kind .vmem s e) (h : x.view.set = Finset.univ) :
    (iprop(∃ f, x.view.loc thr ↦{fullShare} f) : sProp 𝕄) ⊣⊢ iprop(∃ v, holds thr x v) := by
  unfold holds
  rw [h]
  constructor
  · iintro ⟨%f, H⟩
    iexists _, f
    isplitr; · ipureintro; rfl
    iexact H
  · iintro ⟨%v, %f, -, H⟩
    iexists f
    iexact H

/-! ## The task -/

/-- What a task is given of the inputs and the result, the result's part at `f`. -/
abbrev task (w : ℕ) (f : Buf (Elt F) (oLoc d)) : sProp 𝕄 :=
  iprop((aLoc d ↦[regIn w]{fullShare} m (aLoc d)) ∗ (bLoc d ↦[regIn w]{fullShare} m (bLoc d)) ∗ oLoc d ↦[regOut w]{fullShare} f)

/-- The result array. -/
abbrev Res [FloatOps F] : Buf (Elt F) (oLoc d) := G (F := F) (m (aLoc d)) (m (bLoc d))

/-- The values' array as a task sees it. -/
abbrev aV : Memref sig Kind.scVector Space.hbm S2x96x256x256 EltTy.f32 := Memref.whole main_arg0_scv
/-- The indices' array as a task sees it. -/
abbrev bV : Memref sig Kind.scVector Space.hbm S2x96x256x256 EltTy.i32 := Memref.whole main_arg1_scv
/-- The result's array as a task sees it. -/
abbrev oV : Memref sig Kind.scVector Space.hbm S2x96x512x512 EltTy.f32 := Memref.whole main_v0_scv
/-- The even steps' buffer of values. -/
abbrev s0 : Memref sig Kind.scVector Space.vmem S32x256 EltTy.f32 := Memref.whole cc0_scratch0
/-- The odd steps' buffer of values. -/
abbrev s1 : Memref sig Kind.scVector Space.vmem S32x256 EltTy.f32 := Memref.whole cc0_scratch1
/-- The even steps' buffer of indices. -/
abbrev s2 : Memref sig Kind.scVector Space.vmem S32x256 EltTy.i32 := Memref.whole cc0_scratch2
/-- The odd steps' buffer of indices. -/
abbrev s3 : Memref sig Kind.scVector Space.vmem S32x256 EltTy.i32 := Memref.whole cc0_scratch3
/-- The even steps' block of the result. -/
abbrev s4 : Memref sig Kind.scVector Space.vmem S64x512 EltTy.f32 := Memref.whole cc0_scratch4
/-- The odd steps' block of the result. -/
abbrev s5 : Memref sig Kind.scVector Space.vmem S64x512 EltTy.f32 := Memref.whole cc0_scratch5

variable [FloatOps F]

/-- A whole input's elements. -/
theorem pts_a (S : Finset S2x96x256x256.Idx) (q : PosShare TreeShare) (f : Buf (Elt F) (aLoc d)) :
    (pts (V d (cV L) (jV L)) aV S q f : sProp 𝕄) = (aLoc d ↦[S]{q} f) := by
  unfold pts
  exact congrArg (fun J => (aLoc d ↦[J]{q} f : sProp 𝕄)) Finset.map_refl
/-- The other input's. -/
theorem pts_b (S : Finset S2x96x256x256.Idx) (q : PosShare TreeShare) (f : Buf (Elt F) (bLoc d)) :
    (pts (V d (cV L) (jV L)) bV S q f : sProp 𝕄) = (bLoc d ↦[S]{q} f) := by
  unfold pts
  exact congrArg (fun J => (bLoc d ↦[J]{q} f : sProp 𝕄)) Finset.map_refl
/-- The result's. -/
theorem pts_o (S : Finset S2x96x512x512.Idx) (q : PosShare TreeShare) (f : Buf (Elt F) (oLoc d)) :
    (pts (V d (cV L) (jV L)) oV S q f : sProp 𝕄) = (oLoc d ↦[S]{q} f) := by
  unfold pts
  exact congrArg (fun J => (oLoc d ↦[J]{q} f : sProp 𝕄)) Finset.map_refl

/-- The body, from what the launch gives a task to what it takes back. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ task m d (wid L) (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__unpool_body L aV (Memref.isWhole_whole _) bV (Memref.isWhole_whole _) oV (Memref.isWhole_whole _)
            s0 (Memref.isWhole_whole _) s1 (Memref.isWhole_whole _) s2 (Memref.isWhole_whole _) s3 (Memref.isWhole_whole _)
            s4 (Memref.isWhole_whole _) s5 (Memref.isWhole_whole _) cc0_scratch6 cc0_scratch7 cc0_scratch8 cc0_scratch9 cc0_scratch10 cc0_scratch11)
          fun _ => iprop(task m d (wid L) (Res m d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  iintro ⟨#Hlv, -, ⟨Ha, Hb, Ho⟩, ⟨⟨H0, H1, H2, H3, H4, H5⟩, Hbufs⟩, ⟨⟨C0, C1, C2, C3, C4, C5⟩, Hsems⟩, HO⟩
  ihave Hmw := (show levAts (K (F := F)).L (K (F := F)).lev ⊢ MayWaits (V d (cV L) (jV L)) (default : HIx 1) O from
    (K (F := F)).mayWaits_none (thr := V d (cV L) (jV L)) hO) $$ Hlv
  ihave Ha := (pointsTo_share (PosShare.mem_left_op_right fullShare)).1 $$ Ha
  icases Ha with ⟨Ha0, Ha1⟩
  ihave Hb := (pointsTo_share (PosShare.mem_left_op_right fullShare)).1 $$ Hb
  icases Hb with ⟨Hb0, Hb1⟩
  ihave Ha0 := (Entails.of_eq (pts_a d L _ _ _).symm) $$ Ha0
  ihave Ha1 := (Entails.of_eq (pts_a d L _ _ _).symm) $$ Ha1
  ihave Hb0 := (Entails.of_eq (pts_b d L _ _ _).symm) $$ Hb0
  ihave Hb1 := (Entails.of_eq (pts_b d L _ _ _).symm) $$ Hb1
  ihave Ho := (Entails.of_eq (pts_o d L _ _ _).symm) $$ Ho
  ihave H0 := (holds_some (V d (cV L) (jV L)) s0 (View.set_whole _)).1 $$ H0
  ihave H1 := (holds_some (V d (cV L) (jV L)) s1 (View.set_whole _)).1 $$ H1
  ihave H2 := (holds_some (V d (cV L) (jV L)) s2 (View.set_whole _)).1 $$ H2
  ihave H3 := (holds_some (V d (cV L) (jV L)) s3 (View.set_whole _)).1 $$ H3
  ihave H4 := (holds_some (V d (cV L) (jV L)) s4 (View.set_whole _)).1 $$ H4
  ihave H5 := (holds_some (V d (cV L) (jV L)) s5 (View.set_whole _)).1 $$ H5
  have hin : InWin ((bV).view.read (Elt F) (m (bLoc d))) := hpre d
  have hg : (oV).view.read (Elt F) (Res m d) = G ((aV).view.read (Elt F) (m (aLoc d))) ((bV).view.read (Elt F) (m (bLoc d))) := rfl
  ihave H := (body_run d L aV (Memref.isWhole_whole _) bV (Memref.isWhole_whole _) oV (Memref.isWhole_whole _)
            s0 (Memref.isWhole_whole _) s1 (Memref.isWhole_whole _) s2 (Memref.isWhole_whole _) s3 (Memref.isWhole_whole _)
            s4 (Memref.isWhole_whole _) s5 (Memref.isWhole_whole _) cc0_scratch6 cc0_scratch7 cc0_scratch8 cc0_scratch9 cc0_scratch10 cc0_scratch11
            O W fullShare.left fullShare.right (m (aLoc d)) (m (bLoc d)) (m (oLoc d)) (Res m d) hin hg)
    $$ [Hmw HO Ha0 Ha1 Hb0 Hb1 Ho H0 H1 H2 H3 H4 H5 C0 C1 C2 C3 C4 C5]
  · unfold inRest outRest owing
    isplitl [Hmw]; · iexact Hmw
    isplitl [HO]
    · iexists W
      isplitr; · ipureintro; exact fun p hp => .inl hp
      iexact HO
    isplitl [Ha0 H0 C0 Hb0 H2 C2]
    · isplitl [Ha0 H0 C0]
      · isplitl [Ha0]; · iexact Ha0
        isplitl [H0]; · iexact H0
        iexact C0
      · isplitl [Hb0]; · iexact Hb0
        isplitl [H2]; · iexact H2
        iexact C2
    isplitl [Ha1 H1 C1 Hb1 H3 C3]
    · isplitl [Ha1 H1 C1]
      · isplitl [Ha1]; · iexact Ha1
        isplitl [H1]; · iexact H1
        iexact C1
      · isplitl [Hb1]; · iexact Hb1
        isplitl [H3]; · iexact H3
        iexact C3
    isplitl [H4 C4]
    · isplitl [H4]; · iexact H4
      iexact C4
    isplitl [H5 C5]
    · isplitl [H5]; · iexact H5
      iexact C5
    iexact Ho
  iapply (wp_wand frame _) $$ H
  unfold inRest outRest owing
  iintro %_ ⟨HO, ⟨⟨Ha0, H0, C0⟩, ⟨Hb0, H2, C2⟩⟩, ⟨⟨Ha1, H1, C1⟩, ⟨Hb1, H3, C3⟩⟩, ⟨H4, C4⟩, ⟨H5, C5⟩, Ho⟩
  ihave Ha0 := (Entails.of_eq (pts_a d L _ _ _)) $$ Ha0
  ihave Ha1 := (Entails.of_eq (pts_a d L _ _ _)) $$ Ha1
  ihave Hb0 := (Entails.of_eq (pts_b d L _ _ _)) $$ Hb0
  ihave Hb1 := (Entails.of_eq (pts_b d L _ _ _)) $$ Hb1
  ihave Ho := (Entails.of_eq (pts_o d L _ _ _)) $$ Ho
  ihave Ha := (pointsTo_share (PosShare.mem_left_op_right fullShare)).2 $$ [Ha0 Ha1]
  · isplitl [Ha0] <;> iassumption
  ihave Hb := (pointsTo_share (PosShare.mem_left_op_right fullShare)).2 $$ [Hb0 Hb1]
  · isplitl [Hb0] <;> iassumption
  ihave H0 := (holds_some (V d (cV L) (jV L)) s0 (View.set_whole _)).2 $$ H0
  ihave H1 := (holds_some (V d (cV L) (jV L)) s1 (View.set_whole _)).2 $$ H1
  ihave H2 := (holds_some (V d (cV L) (jV L)) s2 (View.set_whole _)).2 $$ H2
  ihave H3 := (holds_some (V d (cV L) (jV L)) s3 (View.set_whole _)).2 $$ H3
  ihave H4 := (holds_some (V d (cV L) (jV L)) s4 (View.set_whole _)).2 $$ H4
  ihave H5 := (holds_some (V d (cV L) (jV L)) s5 (View.set_whole _)).2 $$ H5
  isplitl [Ha Hb Ho]
  · isplitl [Ha]; · iexact Ha
    isplitl [Hb]; · iexact Hb
    iexact Ho
  isplitl [H0 H1 H2 H3 H4 H5 Hbufs]
  · isplitr [Hbufs]
    · isplitl [H0]; · iexact H0
      isplitl [H1]; · iexact H1
      isplitl [H2]; · iexact H2
      isplitl [H3]; · iexact H3
      isplitl [H4]; · iexact H4
      iexact H5
    iexact Hbufs
  isplitr [HO]
  · isplitr [Hsems]
    · isplitl [C0]; · iexact C0
      isplitl [C1]; · iexact C1
      isplitl [C2]; · iexact C2
      isplitl [C3]; · iexact C3
      isplitl [C4]; · iexact C4
      iexact C5
    iexact Hsems
  iexact HO

end Tile

end Cert.Proof.Unpool
-- ==== Proof.Launch.lean ====
/-
  The launch: the two SparseCores take the arrays' halves, their sixteen tasks each the parts of `tile_body`, and the
  whole comes back with the result written. `run_main` is the program's run from any launch memory whose indices lie in
  their own windows: it ends, the inputs unchanged, the result `Res`, every semaphore at zero.
-/
module

public import proofs.«01_k».proof.Proof.Task

@[expose] public section

noncomputable section

namespace Cert.Proof.Unpool

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells)
open Idealize.ShloMosaic.Transfers (Flight MayWaits)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

/-! ## An array split over the cores and their tasks -/

/-- A core's part of an array: the positions of its tasks, whose numbers are congruent to the core's. -/
abbrev coreSet {ℓ : Loc nD τ sig} (own : Idx ℓ → ℕ) (c : ℕ) : Finset (Idx ℓ) := Finset.univ.filter fun i => own i % 2 = c

/-- A core's part is its sixteen tasks' parts. -/
theorem core_tasks {ℓ : Loc nD τ sig} (own : Idx ℓ → ℕ) (h : ∀ i, own i < 32) {c : ℕ} (hc : c < 2) (q : PosShare TreeShare) (f : Buf (Elt F) ℓ) :
    (ℓ ↦[coreSet own c]{q} f : sProp 𝕄)
      = bigSep Finset.univ fun i : Fin 16 => ℓ ↦[Finset.univ.filter fun x => own x = 2 * i.val + c]{q} f := by
  rw [← pointsTo_biUnion Finset.univ (fun i : Fin 16 => Finset.univ.filter fun x : Idx ℓ => own x = 2 * i.val + c)
    (fun i _ j _ hij => Finset.disjoint_left.mpr fun x hx hy => hij (Fin.ext (by
      have hx := (Finset.mem_filter.mp hx).2
      have hy := (Finset.mem_filter.mp hy).2
      omega)))]
  congr 1
  ext x
  have hx := h x
  simp only [coreSet, Finset.mem_filter, Finset.mem_univ, true_and, Finset.mem_biUnion]
  constructor
  · intro e
    exact ⟨⟨own x / 2, by omega⟩, by show own x = 2 * (own x / 2) + c; omega⟩
  · rintro ⟨i, e⟩
    omega

/-- The whole array is the two cores' parts. -/
theorem whole_cores {ℓ : Loc nD τ sig} (own : Idx ℓ → ℕ) (q : PosShare TreeShare) (f : Buf (Elt F) ℓ) :
    (ℓ ↦{q} f : sProp 𝕄) = iprop((ℓ ↦[coreSet own 0]{q} f) ∗ ℓ ↦[coreSet own 1]{q} f) := by
  have hd : Disjoint (coreSet own 0) (coreSet own 1) := Finset.disjoint_left.mpr fun x hx hy => by
    have hx := (Finset.mem_filter.mp hx).2
    have hy := (Finset.mem_filter.mp hy).2
    omega
  refine Eq.trans ?_ (BI.Entails.antisymm (pointsTo_union hd).1 (pointsTo_union hd).2)
  congr 1
  ext x
  simp only [coreSet, Finset.mem_filter, Finset.mem_univ, true_and, Finset.mem_union, true_iff]
  omega

/-- There are 32 tasks over an input. -/
theorem ownIn_lt (i : S2x96x256x256.Idx) : ownIn i < 32 := by
  have h0 : (i 0).val < 2 := (i 0).isLt
  have h1 : (i 1).val < 96 := (i 1).isLt
  unfold ownIn; omega
/-- There are 32 tasks over the result. -/
theorem ownOut_lt (i : S2x96x512x512.Idx) : ownOut i < 32 := by
  have h0 : (i 0).val < 2 := (i 0).isLt
  have h1 : (i 1).val < 96 := (i 1).isLt
  unfold ownOut; omega

/-! ## What the launch hands over -/

/-- What core `c` is given of the inputs and the result, the result's part at `f`. -/
abbrev core (d : Dev nD) (c : ℕ) (f : Buf (Elt F) (oLoc d)) : sProp 𝕄 :=
  iprop((aLoc d ↦[coreSet (ℓ := aLoc d) ownIn c]{fullShare} m (aLoc d)) ∗ (bLoc d ↦[coreSet (ℓ := bLoc d) ownIn c]{fullShare} m (bLoc d))
    ∗ oLoc d ↦[coreSet (ℓ := oLoc d) ownOut c]{fullShare} f)

/-- A core's parts are its tasks'. -/
theorem core_eq (d : Dev nD) {c : ℕ} (hc : c < 2) (f : Buf (Elt F) (oLoc d)) :
    (core m d c f : sProp 𝕄) = bigSep Finset.univ fun i : Fin 16 => task m d (2 * i.val + c) f := by
  unfold core task
  rw [bigSep_sep', bigSep_sep', core_tasks (ℓ := aLoc d) ownIn ownIn_lt hc, core_tasks (ℓ := bLoc d) ownIn ownIn_lt hc,
    core_tasks (ℓ := oLoc d) ownOut ownOut_lt hc]
  rfl

variable [FloatOps F]

/-- What the launch's handshakes carry: a core its part of the arrays, a task its part of the core's; back come the same
with the result written. -/
def P : (K (F := F)).Pay (nD := nD) (Val := Elt F) (Name := ℕ) (U := UU) where
  st := fun q d c => match q with | 0 => core m d c.val (m (oLoc d))
  dn := fun q d c => match q with | 0 => core m d c.val (Res m d)
  go := fun q d c i => match q with | 0 => task m d (2 * i.val + c.val) (m (oLoc d))
  td := fun q d c i => match q with | 0 => task m d (2 * i.val + c.val) (Res m d)
  x := fun _ _ => iprop(emp)

/-- What the handshakes carry can be stored in their cells. -/
instance P_storable : (P (F := F) m).IsStorable where
  st q d c := match q with | 0 => (inferInstance : BI.Storable (upEmb : UEmb _ 𝕄) (core m d c.val (m (oLoc d))))
  dn q d c := match q with | 0 => (inferInstance : BI.Storable (upEmb : UEmb _ 𝕄) (core m d c.val (Res m d)))
  go q d c i := match q with | 0 => (inferInstance : BI.Storable (upEmb : UEmb _ 𝕄) (task m d (2 * i.val + c.val) (m (oLoc d))))
  td q d c i := match q with | 0 => (inferInstance : BI.Storable (upEmb : UEmb _ 𝕄) (task m d (2 * i.val + c.val) (Res m d)))

/-! ## The tasks' obligation -/

/-- The coordinates of subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- A task's body, at its coordinates. -/
theorem defs₀_vector (c : Fin τ.nSC) (s : Fin τ.nSub) :
    defs₀ (F := F) (.scVector c s) 0 ()
      = SparseCore.onTile hcore0 hsub0 (fun c s => cc0__unpool_body (coordsV c s)
          aV (Memref.isWhole_whole _) bV (Memref.isWhole_whole _) oV (Memref.isWhole_whole _)
          s0 (Memref.isWhole_whole _) s1 (Memref.isWhole_whole _) s2 (Memref.isWhole_whole _) s3 (Memref.isWhole_whole _)
          s4 (Memref.isWhole_whole _) s5 (Memref.isWhole_whole _)
          cc0_scratch6 cc0_scratch7 cc0_scratch8 cc0_scratch9 cc0_scratch10 cc0_scratch11) ⟨⟩ c s := rfl

omit [FloatOps F] in
/-- A task's own waits are waits the launch allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Each task does what the launch asks of it. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

/-- A core's part goes out to its tasks and comes back from them. -/
theorem vecSplit : (K (F := F)).VecSplit' (P m) 0 := by
  intro d c
  have hc : c.val < 2 := c.isLt
  show core m d c.val (m (oLoc d)) ⊢ |={Set.univ}=> iprop(
      (bigSep Finset.univ fun i : Fin 16 => task m d (2 * i.val + c.val) (m (oLoc d)))
      ∗ ((bigSep Finset.univ fun i : Fin 16 => task m d (2 * i.val + c.val) (Res m d)) -∗ core m d c.val (Res m d)))
  rw [core_eq m d hc, core_eq m d hc]
  iintro H; imodintro
  isplitl [H]; · iexact H
  iintro H
  iexact H

/-! ## The launch element of the ghost state -/

/-- Where the launch's handshakes keep their ghost state. -/
abbrev EH : Emb UH (MT nD τ sig (HIx 1) (Elt F) ℕ UU ℕ) := embL

/-- The launch's ghost state: the handshakes' cells, and no counter. -/
def u₀ : UU := (initOf (K (F := F)).hsCells (K (F := F)).hsToks, 1)

omit [FloatOps F] in
/-- Nothing, once for each of several, is nothing. -/
theorem no_shares {I : Type} (s : Finset I) : (bigSep s fun _ => iprop(emp)) = (iprop(emp) : sProp 𝕄) := bigSep_emp_const s

/-- The launch's ghost state, from its element. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [no_shares]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), no_shares]
  iempintro

/-! ## The program's main -/

omit [FloatOps F] in
/-- The arrays the launch starts from. -/
theorem unscopedBufs_eq (d : Dev nD) (W : (b : Ref sig .tc) → Buf (Elt F) ((d.tc : Thread nD τ).loc b)) :
    (unscopedBufs d W : sProp 𝕄) = iprop((aLoc d ↦{fullShare} W main_arg0) ∗ (bLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What the call leaves: the inputs as they were, the result. -/
abbrev FIN (d : Dev nD) : sProp 𝕄 :=
  iprop((aLoc d ↦{fullShare} m (aLoc d)) ∗ (bLoc d ↦{fullShare} m (bLoc d)) ∗ oLoc d ↦{fullShare} Res m d)

omit [FloatOps F] in
/-- The three arrays are the two cores' parts of them. -/
theorem cores_eq (d : Dev nD) (f : Buf (Elt F) (oLoc d)) :
    (bigSep Finset.univ fun c : Fin 2 => core m d c.val f)
      = (iprop((aLoc d ↦{fullShare} m (aLoc d)) ∗ (bLoc d ↦{fullShare} m (bLoc d)) ∗ oLoc d ↦{fullShare} f) : sProp 𝕄) := by
  rw [bigSep_sep', bigSep_sep', bigSep_fin_two, bigSep_fin_two, bigSep_fin_two]
  rw [whole_cores (ℓ := aLoc d) ownIn, whole_cores (ℓ := bLoc d) ownIn, whole_cores (ℓ := oLoc d) ownOut]
  rfl

/-- Main on device `d`: the one call, from the three arrays; the inputs kept, the result written. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, H, Hts, -⟩, -⟩
  iapply ((K (F := F)).wp_run (D (F := F)) 𝒱 (EH := EH) (P := P m) κ d 0) $$ [Hst H Hb Hts]
  isplitr; · iexact Hctx
  isplitl [Hst]; · iexact Hst
  isplitl [H]
  · iapply (Entails.of_eq (cores_eq m d (m (oLoc d))).symm)
    iexact H
  iintro ⟨Hst, Hdn⟩
  ihave H := (Entails.of_eq (show (bigSep Finset.univ fun c => (P m).dn 0 d c) = iprop(_) from cores_eq m d (Res m d))) $$ Hdn
  imodintro
  isplitl [Hst]; · iexact Hst
  isplitl [H]; · iexact H
  isplitl [Hb] <;> iassumption

/-- The final memory: the inputs as they were, the result. -/
def fq (d : Dev nD) (s' : Phys nD τ sig (Elt F)) : Prop :=
  s'.mem.mem (aLoc d) = m (aLoc d) ∧ s'.mem.mem (bLoc d) = m (bLoc d) ∧ s'.mem.mem (oLoc d) = Res m d

set_option maxRecDepth 16384 in
/-- What is held whole is what the memory holds. -/
theorem hfin (d : Dev nD) (s' : Phys nD τ sig (Elt F)) : iprop(FIN m d ∗ SI s') ⊢ (⌜fq m d s'⌝ : sProp 𝕄) := by
  iintro ⟨⟨Ha, Hb, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := bLoc d) (I := Finset.univ) (q := fullShare) (f := m (bLoc d)))) $$ [HSI Hb]
  · isplitl [HSI] <;> iassumption
  icases H with ⟨%h2, HSI, -⟩
  ihave H := (SI_pointsTo_agree (st := s') (ℓ := oLoc d) (I := Finset.univ) (q := fullShare) (f := Res m d)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-- What a run ends with: on every device the inputs as they were and the result, and every semaphore at zero. -/
def QC : PUnit × MemSt nD τ sig (Elt F) → Prop := fun r =>
  (∀ c : Dev nD, r.2.mem (aLoc c) = m (aLoc c) ∧ r.2.mem (bLoc c) = m (bLoc c) ∧ r.2.mem (oLoc c) = Res m c) ∧ r.2.sem = fun _ => 0

/-- The program's run. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Unpool
-- ==== Proof.Scatter.lean ====
/-
  The reference read at one position: a scatter that replaces elements, of which at most one lands at a position, and the
  places where the reference's updates land.
-/
module

public import proofs.«01_k».proof.Proof.Gen.ReferenceIdeal
public import Idealize.ShloMosaic.Lib.Routing.OpsPair
public import Idealize.ShloMosaic.Lib.PointwiseCore

@[expose] public section

noncomputable section

namespace Cert.Proof.Unpool

open Cert.ReferenceIdeal Cert.ReferenceIdeal.Gen
open Idealize.ShloMosaic hiding ix3 ix4
open Idealize.ShloMosaic.ValueIdx (ix3 ix4)

/-- Replacing a value at the marked entries of a list, whose values all are `c`: what is left is `c`, when the value was or
an entry is marked. -/
theorem foldl_replace {α β : Type} (p : β → Prop) [DecidablePred p] (v : β → α) (c : α) (L : List β) :
    ∀ x : α, (∀ n ∈ L, p n → v n = c) → (x = c ∨ ∃ n ∈ L, p n) → L.foldl (fun a n => if p n then v n else a) x = c := by
  induction L with
  | nil =>
    rintro x - (h | ⟨n, hn, -⟩)
    · exact h
    · exact absurd hn List.not_mem_nil
  | cons k L ih =>
    intro x hv hx
    rw [List.foldl_cons]
    refine ih _ (fun n hn => hv n (List.mem_cons_of_mem _ hn)) ?_
    by_cases hk : p k
    · rw [if_pos hk]
      exact Or.inl (hv k List.mem_cons_self hk)
    · rw [if_neg hk]
      refine hx.imp_right ?_
      rintro ⟨n, hn, hp⟩
      rcases List.mem_cons.mp hn with rfl | hn
      · exact absurd hp hk
      · exact ⟨n, hn, hp⟩

/-- A replacing scatter at a position where one update lands, and no other: the update. -/
theorem scatter_hit {α : Type} {s si u : Shape} {w : ℕ} (d : ScatterDims s si u) (x : s.Idx → α) (idx : IVec si w) (upd : u.Idx → α)
    (i : s.Idx) (j : u.Idx) (hj : d.resultIdx? j idx = some i) (h1 : ∀ j', d.resultIdx? j' idx = some i → j' = j) :
    Host.scatter d (fun _ b => b) x idx upd i = upd j := by
  rw [Routing.scatter_at]
  refine foldl_replace _ (fun n => upd (u.rowMajor.symm n)) (upd j) _ _ (fun n _ hn => by rw [h1 _ hn])
    (Or.inr ⟨u.rowMajor j, List.mem_finRange _, ?_⟩)
  rw [Equiv.symm_apply_apply]; exact hj

/-- A replacing scatter at a position where no update lands: what was there. -/
theorem scatter_miss {α : Type} {s si u : Shape} {w : ℕ} (d : ScatterDims s si u) (x : s.Idx → α) (idx : IVec si w) (upd : u.Idx → α)
    (i : s.Idx) (h : ∀ j, d.resultIdx? j idx ≠ some i) : Host.scatter d (fun _ b => b) x idx upd i = x i := by
  rw [Routing.scatter_at]
  exact foldl_replace _ (fun n => upd (u.rowMajor.symm n)) (x i) _ _ (fun n _ hn => absurd hn (h _)) (Or.inl rfl)

/-- The reference's scatter. -/
abbrev dims : ScatterDims S2x96x262144 S2x96x65536x3 S2x96x65536 := scatter_S2x96x262144_S2x96x65536x3_S2x96x65536_n_012_012_3

/-- The word an update reads for axis `q` of the operand. -/
theorem dims_word (j : S2x96x65536.Idx) (q : Fin 3) (hq : dims.scatterDimsToOperandDims.idxOf q < dims.scatterDimsToOperandDims.length) :
    dims.siIdx j ⟨dims.scatterDimsToOperandDims.idxOf q, hq⟩ = ix4 (n0 := 2) (n1 := 96) (n2 := 65536) (n3 := 3) (j 0) (j 1) (j 2) q := by
  funext b
  refine Fin.ext ?_
  match b with
  | 0 => rfl
  | 1 => rfl
  | 2 => rfl
  | 3 => fin_cases q <;> rfl

/-- An update lands where its three words, read signed, say. -/
theorem dims_lands (j : S2x96x65536.Idx) (idx : IVec S2x96x65536x3 32) (i : S2x96x262144.Idx) :
    dims.resultIdx? j idx = some i
      ↔ ∀ q : Fin 3, (idx (ix4 (n0 := 2) (n1 := 96) (n2 := 65536) (n3 := 3) (j 0) (j 1) (j 2) q)).toInt = ((i q).val : ℤ) := by
  rw [Routing.resultIdx?_eq_some]
  refine forall_congr' fun q => ?_
  have hm : q ∈ dims.scatterDimsToOperandDims := by
    show q ∈ ([0, 1, 2] : List (Fin 3))
    fin_cases q <;> simp
  have hw : dims.window j q = 0 := by
    unfold ScatterDims.window
    refine dif_neg fun h => ?_
    exact (of_decide_eq_true (List.mem_filter.mp h).2) hm
  have hs : dims.start j idx q = (idx (ix4 (n0 := 2) (n1 := 96) (n2 := 65536) (n3 := 3) (j 0) (j 1) (j 2) q)).toInt := by
    unfold ScatterDims.start
    rw [dif_pos hm, dims_word]
  rw [hs, hw]
  simp

end Cert.Proof.Unpool
-- ==== Proof.Reference.lean ====
/-
  The reference's result is `G`: its updates' index triples are a plane's two numbers and an index of that plane, and as
  every index names a position of its own window, no two updates land at one position.
-/
module

public import proofs.«01_k».proof.Proof.Scatter
public import proofs.«01_k».proof.Proof.Array

@[expose] public section

noncomputable section

namespace Cert.Proof.Unpool

open Cert.ReferenceIdeal Cert.ReferenceIdeal.Gen
open Idealize.ShloMosaic hiding ix3 ix4
open Idealize.ShloMosaic.ValueIdx (ix3 ix4)

variable {F : FTy → Type} [FloatOps F]

/-- A plane of an input as one axis. -/
abbrev flatI (idx : S2x96x256x256.Idx → BitVec 32) : IVec S2x96x65536 32 := shapeCast _ idx shapeCasts_S2x96x256x256_S2x96x65536

/-- The first plane number of every update. -/
abbrev word0 : IVec S2x96x65536x1 32 :=
  broadcastInDim S2x96x65536x1 ![0, 1, 2] bcast_S2x96x65536_S2x96x65536x1_0_1_2 (broadcastInDim S2x96x65536 ![0, 1, 2] bcast_S2x1x1_S2x96x65536_0_1_2
    (select (cmpi .slt (broadcastInDim S2x1x1 ![0] bcast_S2_S2x1x1_0 (iotaInDim S2 32 0)) (broadcastInDim S2x1x1 ![] bcast_S_S2x1x1 (constantI S_ 32 0#32)))
      (addi (broadcastInDim S2x1x1 ![0] bcast_S2_S2x1x1_0 (iotaInDim S2 32 0)) (broadcastInDim S2x1x1 ![] bcast_S_S2x1x1 (constantI S_ 32 2#32)))
      (broadcastInDim S2x1x1 ![0] bcast_S2_S2x1x1_0 (iotaInDim S2 32 0))))

/-- The second plane number of every update. -/
abbrev word1 : IVec S2x96x65536x1 32 :=
  broadcastInDim S2x96x65536x1 ![0, 1, 2] bcast_S2x96x65536_S2x96x65536x1_0_1_2 (broadcastInDim S2x96x65536 ![0, 1, 2] bcast_S1x96x1_S2x96x65536_0_1_2
    (select (cmpi .slt (broadcastInDim S1x96x1 ![1] bcast_S96_S1x96x1_1 (iotaInDim S96 32 0)) (broadcastInDim S1x96x1 ![] bcast_S_S1x96x1 (constantI S_ 32 0#32)))
      (addi (broadcastInDim S1x96x1 ![1] bcast_S96_S1x96x1_1 (iotaInDim S96 32 0)) (broadcastInDim S1x96x1 ![] bcast_S_S1x96x1 (constantI S_ 32 96#32)))
      (broadcastInDim S1x96x1 ![1] bcast_S96_S1x96x1_1 (iotaInDim S96 32 0))))

/-- The index of every update. -/
abbrev word2 (idx : S2x96x256x256.Idx → BitVec 32) : IVec S2x96x65536x1 32 :=
  broadcastInDim S2x96x65536x1 ![0, 1, 2] bcast_S2x96x65536_S2x96x65536x1_0_1_2
    (select (cmpi .slt (flatI idx) (broadcastInDim S2x96x65536 ![] bcast_S_S2x96x65536 (constantI S_ 32 0#32)))
      (addi (flatI idx) (broadcastInDim S2x96x65536 ![] bcast_S_S2x96x65536 (constantI S_ 32 262144#32))) (flatI idx))

/-- The updates' index triples. -/
abbrev words (idx : S2x96x256x256.Idx → BitVec 32) : IVec S2x96x65536x3 32 :=
  concatenate S2x96x65536x3 3 [⟨S2x96x65536x1, word0⟩, ⟨S2x96x65536x1, word1⟩, ⟨S2x96x65536x1, word2 idx⟩]
    concatenates_S2x96x65536x1_S2x96x65536x1_S2x96x65536x1_S2x96x65536x3_d3

/-- The reference's result, as its operations compute it. -/
def Ref (vals : S2x96x256x256.Idx → Elt F .f32) (idx : S2x96x256x256.Idx → BitVec 32) : S2x96x512x512.Idx → Elt F .f32 :=
  shapeCast _ (Host.scatter dims (fun _ b => b) (broadcastInDim S2x96x262144 ![] bcast_S_S2x96x262144 (constant S_ .f32 0x00000000#32)) (words idx)
    (shapeCast _ vals shapeCasts_S2x96x256x256_S2x96x65536)) shapeCasts_S2x96x262144_S2x96x512x512

/-- The place of an update in an input. -/
def place (j : S2x96x65536.Idx) : S2x96x256x256.Idx :=
  ix4 (j 0) (j 1) ⟨(j 2).val / 256, by have h : (j 2).val < 65536 := (j 2).isLt; omega⟩ ⟨(j 2).val % 256, by omega⟩

/-- An update's first word is its first plane number. -/
theorem words_zero (idx : S2x96x256x256.Idx → BitVec 32) (j : S2x96x65536.Idx) :
    words idx (ix4 (n0 := 2) (n1 := 96) (n2 := 65536) (n3 := 3) (j 0) (j 1) (j 2) 0) = BitVec.ofNat 32 (j 0).val := by
  have h : (j 0).val < 2 := (j 0).isLt
  pointwise
  exact Routing.wrap_of_lt (BitVec.ofNat 32 (j 0).val) _ (by rw [BitVec.toNat_ofNat]; omega)

/-- An update's second word is its second plane number. -/
theorem words_one (idx : S2x96x256x256.Idx → BitVec 32) (j : S2x96x65536.Idx) :
    words idx (ix4 (n0 := 2) (n1 := 96) (n2 := 65536) (n3 := 3) (j 0) (j 1) (j 2) 1) = BitVec.ofNat 32 (j 1).val := by
  have h : (j 1).val < 96 := (j 1).isLt
  pointwise
  exact Routing.wrap_of_lt (BitVec.ofNat 32 (j 1).val) _ (by rw [BitVec.toNat_ofNat]; omega)

/-- An update's third word is the index at its place. -/
theorem words_two (idx : S2x96x256x256.Idx → BitVec 32) (j : S2x96x65536.Idx) (h : (idx (place j)).toNat < 2 ^ 31) :
    words idx (ix4 (n0 := 2) (n1 := 96) (n2 := 65536) (n3 := 3) (j 0) (j 1) (j 2) 2) = idx (place j) := by
  pointwise
  exact Routing.wrap_of_lt (idx (place j)) _ h

/-- An update's value is the value at its place. -/
theorem flat_at {α : Type} (vals : S2x96x256x256.Idx → α) (j : S2x96x65536.Idx) :
    shapeCast S2x96x65536 vals shapeCasts_S2x96x256x256_S2x96x65536 j = vals (place j) := by
  pointwise
  rfl

/-- The position of the flat result that a position of the result is. -/
def flatPos (i : S2x96x512x512.Idx) : S2x96x262144.Idx :=
  ix3 (i 0) (i 1) ⟨(i 2).val * 512 + (i 3).val, by
    have h2 : (i 2).val < 512 := (i 2).isLt
    have h3 : (i 3).val < 512 := (i 3).isLt
    omega⟩

/-- The flat result at a position. -/
theorem unflat_at {α : Type} (x : S2x96x262144.Idx → α) (i : S2x96x512x512.Idx) :
    shapeCast S2x96x512x512 x shapeCasts_S2x96x262144_S2x96x512x512 i = x (flatPos i) := by
  pointwise
  rfl

/-- An index of its own window is a position of its plane. -/
theorem inWin_lt {idx : S2x96x256x256.Idx → BitVec 32} (h : InWin idx) (i : S2x96x256x256.Idx) : (idx i).toNat < 2 ^ 31 := by
  obtain ⟨a, b, ha, hb, e⟩ := h i
  have h2 : (i 2).val < 256 := (i 2).isLt
  have h3 : (i 3).val < 256 := (i 3).isLt
  omega

/-- An update lands at a position exactly when it comes from the position's window and its index names the position. -/
theorem lands_iff {idx : S2x96x256x256.Idx → BitVec 32} (h : InWin idx) (i : S2x96x512x512.Idx) (j : S2x96x65536.Idx) :
    dims.resultIdx? j (words idx) = some (flatPos i)
      ↔ place j = pool i ∧ (idx (pool i)).toNat = (i 2).val * 512 + (i 3).val := by
  have h2 : (i 2).val < 512 := (i 2).isLt
  have h3 : (i 3).val < 512 := (i 3).isLt
  have j0 : (j 0).val < 2 := (j 0).isLt
  have j1 : (j 1).val < 96 := (j 1).isLt
  have hl := inWin_lt h (place j)
  have small : ∀ x : BitVec 32, x.toNat < 2 ^ 31 → x.toInt = (x.toNat : ℤ) := fun x hx => by
    rw [BitVec.toInt_eq_toNat_cond, if_pos (by omega)]
  rw [dims_lands]
  have key : (∀ q : Fin 3, (words idx (ix4 (n0 := 2) (n1 := 96) (n2 := 65536) (n3 := 3) (j 0) (j 1) (j 2) q)).toInt = ((flatPos i q).val : ℤ))
      ↔ (j 0).val = (i 0).val ∧ (j 1).val = (i 1).val ∧ (idx (place j)).toNat = (i 2).val * 512 + (i 3).val := by
    have e0 : (words idx (ix4 (n0 := 2) (n1 := 96) (n2 := 65536) (n3 := 3) (j 0) (j 1) (j 2) 0)).toInt = ((j 0).val : ℤ) := by
      rw [words_zero, small _ (by rw [BitVec.toNat_ofNat]; omega), BitVec.toNat_ofNat, Nat.mod_eq_of_lt (by omega)]
    have e1 : (words idx (ix4 (n0 := 2) (n1 := 96) (n2 := 65536) (n3 := 3) (j 0) (j 1) (j 2) 1)).toInt = ((j 1).val : ℤ) := by
      rw [words_one, small _ (by rw [BitVec.toNat_ofNat]; omega), BitVec.toNat_ofNat, Nat.mod_eq_of_lt (by omega)]
    have e2 : (words idx (ix4 (n0 := 2) (n1 := 96) (n2 := 65536) (n3 := 3) (j 0) (j 1) (j 2) 2)).toInt = ((idx (place j)).toNat : ℤ) := by
      rw [words_two _ _ hl, small _ hl]
    constructor
    · intro H
      exact ⟨Int.ofNat.inj (e0.symm.trans (H 0)), Int.ofNat.inj (e1.symm.trans (H 1)), Int.ofNat.inj (e2.symm.trans (H 2))⟩
    · rintro ⟨H0, H1, H2⟩ q
      match q with
      | 0 => exact e0.trans (congrArg Int.ofNat H0)
      | 1 => exact e1.trans (congrArg Int.ofNat H1)
      | 2 => exact e2.trans (congrArg Int.ofNat H2)
  rw [key]
  constructor
  · rintro ⟨H0, H1, H2⟩
    have hp : place j = pool i := by
      obtain ⟨a, b, ha, hb, e⟩ := h (place j)
      have p2 : (place j 2).val < 256 := (place j 2).isLt
      have p3 : (place j 3).val < 256 := (place j 3).isLt
      funext q
      refine Fin.ext ?_
      match q with
      | 0 => exact H0
      | 1 => exact H1
      | 2 => show (place j 2).val = (i 2).val / 2; omega
      | 3 => show (place j 3).val = (i 3).val / 2; omega
    exact ⟨hp, hp ▸ H2⟩
  · rintro ⟨hp, H⟩
    exact ⟨congrArg (fun p : S2x96x256x256.Idx => (p 0).val) hp, congrArg (fun p : S2x96x256x256.Idx => (p 1).val) hp, hp ▸ H⟩

/-- The update from a place. -/
theorem place_surj (p : S2x96x256x256.Idx) : ∃ j, place j = p := by
  have h2 : (p 2).val < 256 := (p 2).isLt
  have h3 : (p 3).val < 256 := (p 3).isLt
  refine ⟨ix3 (p 0) (p 1) ⟨(p 2).val * 256 + (p 3).val, by omega⟩, ?_⟩
  funext q
  refine Fin.ext ?_
  match q with
  | 0 => rfl
  | 1 => rfl
  | 2 => show ((p 2).val * 256 + (p 3).val) / 256 = (p 2).val; omega
  | 3 => show ((p 2).val * 256 + (p 3).val) % 256 = (p 3).val; omega

/-- Two updates from one place are one. -/
theorem place_inj {j j' : S2x96x65536.Idx} (e : place j = place j') : j = j' := by
  funext q
  refine Fin.ext ?_
  match q with
  | 0 => exact congrArg (fun p : S2x96x256x256.Idx => (p 0).val) e
  | 1 => exact congrArg (fun p : S2x96x256x256.Idx => (p 1).val) e
  | 2 =>
    have a : (j 2).val / 256 = (j' 2).val / 256 := congrArg (fun p : S2x96x256x256.Idx => (p 2).val) e
    have b : (j 2).val % 256 = (j' 2).val % 256 := congrArg (fun p : S2x96x256x256.Idx => (p 3).val) e
    show (j 2).val = (j' 2).val
    omega

/-- The reference's result is `G`, when every index names a position of its own window. -/
theorem ref_eq {idx : S2x96x256x256.Idx → BitVec 32} (h : InWin idx) (vals : S2x96x256x256.Idx → Elt F .f32) : Ref vals idx = G vals idx := by
  funext i
  unfold Ref G
  rw [unflat_at]
  by_cases hi : (idx (pool i)).toNat = (i 2).val * 512 + (i 3).val
  · rw [if_pos hi]
    obtain ⟨j, hj⟩ := place_surj (pool i)
    rw [scatter_hit dims _ _ _ _ j ((lands_iff h i j).mpr ⟨hj, hi⟩)
      (fun j' hj' => place_inj (((lands_iff h i j').mp hj').1.trans hj.symm)), flat_at, hj]
  · rw [if_neg hi, scatter_miss dims _ _ _ _ (fun j hj => hi ((lands_iff h i j).mp hj).2)]
    rfl

end Cert.Proof.Unpool
-- ==== Proof.lean ====
/-
  The proof of `Cert.Claim`. The kernel's run is `Unpool.run_main` (Proof/Launch.lean), over any float values: both frames of
  the kernel are read off it. The reference's run is the generated `ReferenceIdeal.Value.run`, and its result is the kernel's
  by `Unpool.ref_eq` (Proof/Reference.lean).
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_windows
public import proofs.«01_k».proof.Proof.Launch
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.SL.Sem

/-- The kernel as printed runs, its arguments unchanged, every semaphore at zero. -/
theorem frame_kernel : Cert.quiescent_Kernel := fun m ρ hp =>
  (θ_run Cert.KernelIdeal.defs _ _).mono (fun _ h => ⟨fun c => ⟨(h.1 c).1, (h.1 c).2.1⟩, h.2⟩)
    (Unpool.run_main (F := Bits) m ρ fun d => Unpool.inWin_of_pre _ _ (hp d))

/-- The kernel over the extended reals runs, its arguments unchanged, every semaphore at zero. -/
theorem frame_kernelIdeal : Cert.quiescent_KernelIdeal := fun m ρ hp =>
  (θ_run Cert.KernelIdeal.defs _ _).mono (fun _ h => ⟨fun c => ⟨(h.1 c).1, (h.1 c).2.1⟩, h.2⟩)
    (Unpool.run_main (F := Ideal) m ρ fun d => Unpool.inWin_of_pre _ _ (hp d))

/-- The reference runs, its arguments unchanged; it has no semaphore. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

/-- The same from arguments that meet the precondition. -/
theorem frame_reference_pre : Cert.quiescent_ReferenceIdeal_pre_in_windows := fun m ρ _ => frame_reference m ρ trivial

/-- The kernel's result over the extended reals is the reference's. -/
theorem value : Cert.algebraic_KernelIdeal_ReferenceIdeal := fun m g m' g' hp hm =>
  have hw : Unpool.PreOK (F := Ideal) m := fun d => Unpool.inWin_of_pre _ _ (hp d)
  ⟨fun c => Unpool.Res (F := Ideal) m c,
    (θ_run Cert.KernelIdeal.defs _ _).mono (fun _ h c => ⟨(h.1 c).2.2, (h.1 c).1, (h.1 c).2.1⟩) (Unpool.run_main (F := Ideal) m g hw),
    (θ_run Cert.ReferenceIdeal.defs _ _).mono (fun r h c => ⟨(h c).1.trans (by
      rw [(hm c).1, (hm c).2]
      exact Unpool.ref_eq (F := Ideal) (hw c) _), (h c).2⟩) (Cert.ReferenceIdeal.Value.run (F := Ideal) m' g')⟩

theorem claim : Cert.Claim := ⟨Cert.Kernel.Gen.facts, Cert.KernelIdeal.Gen.facts, Cert.ReferenceIdeal.Gen.facts, Cert.Pre_in_windows.Gen.facts,
  frame_kernel, frame_kernelIdeal, frame_reference, frame_reference_pre, trivial, value⟩

end Cert.Proof

end
